-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4x2048x4096 : Shape := ⟨3, ![4, 2048, 4096]⟩
abbrev S4x2048 : Shape := ⟨2, ![4, 2048]⟩
abbrev S2048x4 : Shape := ⟨2, ![2048, 4]⟩
abbrev S_ : Shape := ⟨0, ![]⟩

class Facts : Prop where
  bcast_S_S4x2048 : S_.BroadcastsInDim S4x2048 (![] : Fin 0 → Fin S4x2048.rank)
  reducesTo_S4x2048_S_d0_1 : S4x2048.ReducesTo [0, 1] S_
  h_S_ : 0 < S_.numel

variable [Facts]

def fn {F : FTy → Type} [FloatOps F] (main_arg0 : FVec F S4x2048x4096 .f32) (main_arg1 : IVec S4x2048 32) (main_arg2 : FVec F S2048x4 .f32) : IVec S_ 1 :=
  let main_c : IVec S_ 32 := constantI S_ 32 0#32
  let main_v0 : IVec S4x2048 32 := broadcastInDim S4x2048 ![] bcast_S_S4x2048 main_c
  let main_v1 : IVec S4x2048 1 := cmpi .sge main_arg1 main_v0
  let main_c_0 : IVec S_ 32 := constantI S_ 32 4096#32
  let main_v2 : IVec S4x2048 32 := broadcastInDim S4x2048 ![] bcast_S_S4x2048 main_c_0
  let main_v3 : IVec S4x2048 1 := cmpi .slt main_arg1 main_v2
  let main_v4 : IVec S4x2048 1 := andi main_v1 main_v3
  let main_c_1 : IVec S_ 1 := constantI S_ 1 1#1
  let main_v5 : IVec S_ 1 := (fun x v => Host.reduce IntOp.andi x v reducesTo_S4x2048_S_d0_1 h_S_) main_v4 main_c_1
  main_v5
-- ==== Kernel.lean ====
abbrev S4x2048x4096 : Shape := ⟨3, ![4, 2048, 4096]⟩
abbrev S4x2048 : Shape := ⟨2, ![4, 2048]⟩
abbrev S2048x4 : Shape := ⟨2, ![2048, 4]⟩
abbrev S8192 : Shape := ⟨1, ![8192]⟩
abbrev S1024x8x32x128 : Shape := ⟨4, ![1024, 8, 32, 128]⟩
abbrev S1024x32x8x128 : Shape := ⟨4, ![1024, 32, 8, 128]⟩
abbrev S33554432 : Shape := ⟨1, ![33554432]⟩
abbrev S32x16 : Shape := ⟨2, ![32, 16]⟩
abbrev S256 : Shape := ⟨1, ![256]⟩
abbrev S2x128 : Shape := ⟨2, ![2, 128]⟩
abbrev S16 : Shape := ⟨1, ![16]⟩
abbrev S_ : Shape := ⟨0, ![]⟩
abbrev S1x16 : Shape := ⟨2, ![1, 16]⟩
abbrev S1x128 : Shape := ⟨2, ![1, 128]⟩
abbrev S128 : Shape := ⟨1, ![128]⟩
abbrev S1x1 : Shape := ⟨2, ![1, 1]⟩

abbrev nBuf : Table → Nat
  | .hbm => 16
  | .local .scVector .vmem => 5
  | _ => 0

abbrev bufTy : (tb : Table) → Fin (nBuf tb) → BufTy
  | .hbm, ⟨0, _⟩ => ⟨S4x2048x4096, .f32⟩
  | .hbm, ⟨1, _⟩ => ⟨S4x2048, .i32⟩
  | .hbm, ⟨2, _⟩ => ⟨S2048x4, .f32⟩
  | .hbm, ⟨3, _⟩ => ⟨S2048x4, .i32⟩
  | .hbm, ⟨4, _⟩ => ⟨S8192, .i32⟩
  | .hbm, ⟨5, _⟩ => ⟨S4x2048, .f32⟩
  | .hbm, ⟨6, _⟩ => ⟨S8192, .f32⟩
  | .hbm, ⟨7, _⟩ => ⟨S1024x8x32x128, .f32⟩
  | .hbm, ⟨8, _⟩ => ⟨S1024x32x8x128, .f32⟩
  | .hbm, ⟨9, _⟩ => ⟨S33554432, .f32⟩
  | .hbm, ⟨10, _⟩ => ⟨S32x16, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1x1, .f32⟩
  | .local .scVector .vmem, ⟨0, _⟩ => ⟨S256, .i32⟩
  | .local .scVector .vmem, ⟨1, _⟩ => ⟨S2x128, .i32⟩
  | .local .scVector .vmem, ⟨2, _⟩ => ⟨S2x128, .f32⟩
  | .local .scVector .vmem, ⟨3, _⟩ => ⟨S256, .f32⟩
  | .local .scVector .vmem, ⟨4, _⟩ => ⟨S16, .f32⟩
  | _, _ => ⟨S4x2048x4096, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v6_scv : Ref sig .scVector := ⟨.hbm, 9, rfl⟩
abbrev main_v1_scv : Ref sig .scVector := ⟨.hbm, 4, rfl⟩
abbrev main_v3_scv : Ref sig .scVector := ⟨.hbm, 6, rfl⟩
abbrev main_v7_scv : Ref sig .scVector := ⟨.hbm, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_207_r2 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x2048x4096 : Shape := ⟨3, ![4, 2048, 4096]⟩
abbrev S4x2048 : Shape := ⟨2, ![4, 2048]⟩
abbrev S2048x4 : Shape := ⟨2, ![2048, 4]⟩
abbrev S8192 : Shape := ⟨1, ![8192]⟩
abbrev S8192x4096 : Shape := ⟨2, ![8192, 4096]⟩
abbrev S8192x1 : Shape := ⟨2, ![8192, 1]⟩
abbrev S_ : Shape := ⟨0, ![]⟩
abbrev S8192x2 : Shape := ⟨2, ![8192, 2]⟩
abbrev S1x8192 : Shape := ⟨2, ![1, 8192]⟩
abbrev S1x1 : Shape := ⟨2, ![1, 1]⟩

abbrev nBuf : Space → Nat
  | .hbm => 39
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4x2048, .i32⟩
  | .hbm, ⟨2, _⟩ => ⟨S2048x4, .f32⟩
  | .hbm, ⟨3, _⟩ => ⟨S2048x4, .i32⟩
  | .hbm, ⟨4, _⟩ => ⟨S8192, .i32⟩
  | .hbm, ⟨5, _⟩ => ⟨S8192x4096, .f32⟩
  | .hbm, ⟨6, _⟩ => ⟨S4x2048, .f32⟩
  | .hbm, ⟨7, _⟩ => ⟨S8192x1, .f32⟩
  | .hbm, ⟨8, _⟩ => ⟨S_, .f32⟩
  | .hbm, ⟨9, _⟩ => ⟨S8192x4096, .f32⟩
  | .hbm, ⟨10, _⟩ => ⟨S8192, .i32⟩
  | .hbm, ⟨11, _⟩ => ⟨S_, .i32⟩
  | .hbm, ⟨12, _⟩ => ⟨S8192, .i32⟩
  | .hbm, ⟨13, _⟩ => ⟨S8192, .i1⟩
  | .hbm, ⟨14, _⟩ => ⟨S_, .i32⟩
  | .hbm, ⟨15, _⟩ => ⟨S8192, .i32⟩
  | .hbm, ⟨16, _⟩ => ⟨S8192, .i32⟩
  | .hbm, ⟨17, _⟩ => ⟨S8192, .i32⟩
  | .hbm, ⟨18, _⟩ => ⟨S_, .i32⟩
  | .hbm, ⟨19, _⟩ => ⟨S8192, .i32⟩
  | .hbm, ⟨20, _⟩ => ⟨S8192, .i1⟩
  | .hbm, ⟨21, _⟩ => ⟨S_, .i32⟩
  | .hbm, ⟨22, _⟩ => ⟨S8192, .i32⟩
  | .hbm, ⟨23, _⟩ => ⟨S8192, .i32⟩
  | .hbm, ⟨24, _⟩ => ⟨S8192, .i32⟩
  | .hbm, ⟨25, _⟩ => ⟨S8192x1, .i32⟩
  | .hbm, ⟨26, _⟩ => ⟨S8192x1, .i32⟩
  | .hbm, ⟨27, _⟩ => ⟨S8192x2, .i32⟩
  | .hbm, ⟨28, _⟩ => ⟨S_, .f32⟩
  | .hbm, ⟨29, _⟩ => ⟨S8192, .f32⟩
  | .hbm, ⟨30, _⟩ => ⟨S8192x4096, .f32⟩
  | .hbm, ⟨31, _⟩ => ⟨S8192x4096, .f32⟩
  | .hbm, ⟨32, _⟩ => ⟨S_, .f32⟩
  | .hbm, ⟨33, _⟩ => ⟨S8192, .f32⟩
  | .hbm, ⟨34, _⟩ => ⟨S1x8192, .f32⟩
  | .hbm, ⟨35, _⟩ => ⟨S1x1, .f32⟩
  | .hbm, ⟨36, _⟩ => ⟨S_, .f32⟩
  | .hbm, ⟨37, _⟩ => ⟨S1x1, .f32⟩
  | .hbm, ⟨38, _⟩ => ⟨S1x1, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Proof.Setup.lean ====
/-
  THE LAUNCH'S SET-UP AND WHAT IT COMPUTES. The program as the SparseCore launch theorem sees it, the arrays the one
  call works on, and the function it computes on them.

  The call reads the probabilities as one flat array `A` (in the order of their tiles of 8 × 128), the targets `T` and
  the rewards `R`, and fills a 32 × 16 array of partial sums. Tile `i` of SparseCore `c` is worker `2 i + c`; worker `w`
  serves the rows `256 w … 256 w + 255`: it copies their targets and rewards, computes for each the position of its
  probability in `A` (`posWord`), gathers those 256 words, and adds, lane by lane, the sixteen products of a gathered
  probability and a reward (`partials`).
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

set_option maxRecDepth 16384

noncomputable section

namespace Cert.Proof.Setup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

/-- The handshake semaphores are distinct and no scoped ones, and no tile's buffer belongs to its SparseCore. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state: the handshakes' rounds and the transfers' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays of the call -/

/-- The flat probabilities, the targets, the rewards and the partial sums, as device `d` holds them. -/
abbrev aLoc (d : Dev nD) : Loc nD τ sig := (SparseCore.T d).loc main_v6
abbrev tLoc (d : Dev nD) : Loc nD τ sig := (SparseCore.T d).loc main_v1
abbrev rLoc (d : Dev nD) : Loc nD τ sig := (SparseCore.T d).loc main_v3
abbrev oLoc (d : Dev nD) : Loc nD τ sig := (SparseCore.T d).loc main_v7

/-- The same four arrays as a tile addresses them, and a tile's scratch buffers: its targets, the positions it
    computes, the probabilities it gathers, its rewards, its sums. -/
abbrev aV : Memref sig .scVector .hbm S33554432 .f32 := Memref.whole main_v6_scv
abbrev tV : Memref sig .scVector .hbm S8192 .i32 := Memref.whole main_v1_scv
abbrev rV : Memref sig .scVector .hbm S8192 .f32 := Memref.whole main_v3_scv
abbrev oV : Memref sig .scVector .hbm S32x16 .f32 := Memref.whole main_v7_scv
abbrev tS : Memref sig .scVector .vmem S256 .i32 := Memref.whole cc0_scratch0
abbrev pS : Memref sig .scVector .vmem S2x128 .i32 := Memref.whole cc0_scratch1
abbrev gS : Memref sig .scVector .vmem S2x128 .f32 := Memref.whole cc0_scratch2
abbrev rS : Memref sig .scVector .vmem S256 .f32 := Memref.whole cc0_scratch3
abbrev sS : Memref sig .scVector .vmem S16 .f32 := Memref.whole cc0_scratch4

/-- The arrays' contents. -/
abbrev Probs (F : FTy → Type) : Type := S33554432.Idx → F .f32
abbrev Targets : Type := S8192.Idx → BitVec 32
abbrev Rewards (F : FTy → Type) : Type := S8192.Idx → F .f32

/-! ## What the call computes -/

/-- Position `n` of the flat probabilities; row `n` of the targets and rewards. -/
def probAt (n : ℕ) : S33554432.Idx := fun | 0 => ⟨n % 33554432, Nat.mod_lt _ (by decide)⟩
def rowAt (n : ℕ) : S8192.Idx := fun | 0 => ⟨n % 8192, Nat.mod_lt _ (by decide)⟩

/-- The position of the probability of row `row` and target `t` in the flat array: the array holds tiles of 8 rows by
    128 columns, 32 of them to a band of 8 rows. -/
def posWord (row t : BitVec 32) : BitVec 32 :=
  IntOp.addi (IntOp.addi (IntOp.addi (IntOp.muli (IntOp.shrsi .vector row 3#32) 32768#32) (IntOp.shli .vector (IntOp.shrsi .vector t 7#32) 10#32))
    (IntOp.shli .vector (IntOp.andi row 7#32) 7#32)) (IntOp.andi t 127#32)

/-- The word of row `n`: its position in the flat array. -/
def rowPos (Tg : Targets) (n : ℕ) : BitVec 32 := posWord (BitVec.ofNat 32 n) (Tg (rowAt n))

/-- The probability gathered for row `n`. -/
def picked (A : Probs F) (Tg : Targets) (n : ℕ) : F .f32 := A (probAt (rowPos Tg n).toNat)

variable [FloatOps F]

/-- Row `n`'s contribution: its probability at its target times its reward. -/
def contrib (A : Probs F) (Tg : Targets) (R : Rewards F) (n : ℕ) : F .f32 := FloatOps.mulf (picked A Tg n) (R (rowAt n))

/-- Lane `l` of worker `w`: zero, and then the contributions of the rows `256 w + l`, `256 w + 16 + l`, …,
    `256 w + 240 + l` added in turn. -/
def partials (A : Probs F) (Tg : Targets) (R : Rewards F) : S32x16.Idx → F .f32 := fun y =>
  (List.range 16).foldl (fun acc j => FloatOps.addf acc (contrib A Tg R (256 * (y 0).val + 16 * j + (y 1).val))) (Scalar.ofBits .f32 0x00000000#32)

/-! ## What a tile is handed and hands back -/

theorem odiv : 32 ∣ S32x16.size 0 := ⟨1, rfl⟩

/-- Row `w` of the partial sums. -/
abbrev oRow (w : Fin 32) : Rect S32x16 := Rect.part (s := S32x16) (a₀ := 0) odiv w
abbrev oRowSet (w : Fin 32) : Finset S32x16.Idx := ((oV).view.slice (oRow w)).set

/-- Worker `w`'s share of an array that every worker reads. -/
abbrev shr (w : Fin 32) : PosShare TreeShare := pieceOf fullShare 32 (by decide) w

/-- The worker that tile `i` of SparseCore `c` is. -/
def worker (c : Fin 2) (i : Fin 16) : Fin 32 := ⟨2 * i.val + c.val, by omega⟩

/-- The contents of the call's operands on every device, and of the result's array before the call. -/
structure Ops (F : FTy → Type) where
  A : Dev nD → Probs F
  Tg : Dev nD → Targets
  R : Dev nD → Rewards F
  o : Dev nD → S32x16.Idx → F .f32

variable (m : Ops F)

/-- A worker's shares of the operands. -/
abbrev opPts (d : Dev nD) (w : Fin 32) : sProp 𝕄 :=
  iprop((aLoc d ↦{shr w} (m.A d : Buf (Elt F) (aLoc d))) ∗ (tLoc d ↦{shr w} (m.Tg d : Buf (Elt F) (tLoc d))) ∗ (rLoc d ↦{shr w} (m.R d : Buf (Elt F) (rLoc d))))
/-- A worker's row of the result at `f`. -/
abbrev oRowPts (d : Dev nD) (w : Fin 32) (f : S32x16.Idx → F .f32) : sProp 𝕄 := oLoc d ↦[oRowSet w]{fullShare} (f : Buf (Elt F) (oLoc d))
/-- What the call leaves in the result's array. -/
abbrev sums (d : Dev nD) : S32x16.Idx → F .f32 := partials (m.A d) (m.Tg d) (m.R d)

/-- What a worker is handed. -/
abbrev goPts (d : Dev nD) (w : Fin 32) : sProp 𝕄 := iprop(opPts m d w ∗ oRowPts d w (m.o d))
/-- What a worker hands back: the operands' shares and its row of the partial sums. -/
abbrev tdPts (d : Dev nD) (w : Fin 32) : sProp 𝕄 := iprop(opPts m d w ∗ oRowPts d w (sums m d))

/-- The worker of the launch's tile `i` on its SparseCore `c`. -/
abbrev wk (c : Fin ((K (F := F)).nCore 0)) (i : Fin ((K (F := F)).nSub 0)) : Fin 32 := worker (Fin.cast nCore_zero c) (Fin.cast nSub_zero i)

/-- What the handshakes carry: a SparseCore takes its tiles' parts together and brings them back together. -/
def P : (K (F := F)).Pay (nD := nD) (Val := Elt F) (Name := ℕ) (U := UU) where
  st := fun q d c => match q with | 0 => bigSep Finset.univ fun i => goPts m d (wk (F := F) c i)
  dn := fun q d c => match q with | 0 => bigSep Finset.univ fun i => tdPts m d (wk (F := F) c i)
  go := fun q d c i => match q with | 0 => goPts m d (wk (F := F) c i)
  td := fun q d c i => match q with | 0 => tdPts m d (wk (F := F) c i)
  x := fun _ _ => iprop(emp)

instance P_storable : (P (F := F) m).IsStorable where
  st q d c := match q with
    | 0 => (inferInstance : BI.Storable (upEmb : UEmb _ 𝕄) (bigSep Finset.univ fun i => goPts m d (wk (F := F) c i)))
  dn q d c := match q with
    | 0 => (inferInstance : BI.Storable (upEmb : UEmb _ 𝕄) (bigSep Finset.univ fun i => tdPts m d (wk (F := F) c i)))
  go q d c i := match q with | 0 => (inferInstance : BI.Storable (upEmb : UEmb _ 𝕄) (goPts m d (wk (F := F) c i)))
  td q d c i := match q with | 0 => (inferInstance : BI.Storable (upEmb : UEmb _ 𝕄) (tdPts m d (wk (F := F) c i)))

/-- What the run asks of the targets: every one names a column of the probabilities. -/
def InCols (Tg : Targets) : Prop := ∀ y, (Tg y).toNat < 4096

end Cert.Proof.Setup

end
-- ==== Proof.Words.lean ====
/-
  THE POSITION OF A PROBABILITY, as the kernel's 32-bit words compute it and as a number. For a row below 8192 and a
  target below 4096 no operation wraps and no shift is one of a negative word, so `posWord` is the number
  `(row / 8) · 32768 + (t / 128) · 1024 + (row % 8) · 128 + t % 128`, which is below the array's length.
-/
module

public import proofs.«01_k».proof.Proof.Setup

@[expose] public section

set_option maxRecDepth 16384

noncomputable section

namespace Cert.Proof.Words

open Cert.KernelIdeal Cert.Proof.Setup
open Idealize.ShloMosaic

/-- The arithmetic shift right of a word below half the range is the division by a power of two. -/
theorem shrsi_toNat (x : BitVec 32) (k : ℕ) (hk : k < 32) (hx : x.toNat < 2 ^ 31) : (IntOp.shrsi .vector x (BitVec.ofNat 32 k)).toNat = x.toNat / 2 ^ k := by
  have hkn : (BitVec.ofNat 32 k).toNat = k := by simp; omega
  have hm : x.msb = false := by rw [BitVec.msb_eq_false_iff_two_mul_lt]; omega
  simp only [IntOp.shrsi, hkn, hk, ↓reduceIte, BitVec.sshiftRight']
  rw [BitVec.sshiftRight_eq_of_msb_false hm, BitVec.toNat_ushiftRight, Nat.shiftRight_eq_div_pow]

/-- The shift left of a word that stays in range is the product with a power of two. -/
theorem shli_toNat (x : BitVec 32) (k : ℕ) (hk : k < 32) (hx : x.toNat * 2 ^ k < 2 ^ 32) : (IntOp.shli .vector x (BitVec.ofNat 32 k)).toNat = x.toNat * 2 ^ k := by
  have hkn : (BitVec.ofNat 32 k).toNat = k := by simp; omega
  simp only [IntOp.shli, hkn, hk, ↓reduceIte]
  rw [BitVec.shiftLeft_eq', BitVec.toNat_shiftLeft, hkn, Nat.shiftLeft_eq, Nat.mod_eq_of_lt hx]

/-- A word masked with all ones below a power of two is its remainder. -/
theorem andi_toNat (x : BitVec 32) (k : ℕ) (hk : k < 32) : (IntOp.andi x (BitVec.ofNat 32 (2 ^ k - 1))).toNat = x.toNat % 2 ^ k := by
  have h2 : 2 ^ k < 2 ^ 32 := Nat.pow_lt_pow_right (by omega) hk
  have hkn : (BitVec.ofNat 32 (2 ^ k - 1)).toNat = 2 ^ k - 1 := by rw [BitVec.toNat_ofNat]; exact Nat.mod_eq_of_lt (by omega)
  simp only [IntOp.andi, BitVec.toNat_and, hkn, Nat.and_two_pow_sub_one_eq_mod]

/-- The position as a number. -/
theorem posWord_toNat (row t : BitVec 32) (hr : row.toNat < 8192) (ht : t.toNat < 4096) :
    (posWord row t).toNat = row.toNat / 8 * 32768 + t.toNat / 128 * 1024 + row.toNat % 8 * 128 + t.toNat % 128 := by
  have e1 := shrsi_toNat row 3 (by decide) (by omega)
  have e2 := shrsi_toNat t 7 (by decide) (by omega)
  have e3 := andi_toNat row 3 (by decide)
  have e4 := andi_toNat t 7 (by decide)
  have e5 := shli_toNat (IntOp.shrsi .vector t (BitVec.ofNat 32 7)) 10 (by decide) (by rw [e2]; omega)
  have e6 := shli_toNat (IntOp.andi row (BitVec.ofNat 32 (2 ^ 3 - 1))) 7 (by decide) (by rw [e3]; omega)
  rw [e2] at e5; rw [e3] at e6
  norm_num at e1 e2 e3 e4 e5 e6
  unfold posWord
  simp only [IntOp.addi, IntOp.muli, BitVec.toNat_add, BitVec.toNat_mul, e1, e4, e5, e6, BitVec.toNat_ofNat]
  omega

/-- Every position is inside the flat array. -/
theorem posWord_lt (row t : BitVec 32) (hr : row.toNat < 8192) (ht : t.toNat < 4096) : (posWord row t).toNat < 33554432 := by
  rw [posWord_toNat row t hr ht]; omega

theorem rowPos_toNat {Tg : Targets} (hT : InCols Tg) {n : ℕ} (hn : n < 8192) :
    (rowPos Tg n).toNat = n / 8 * 32768 + (Tg (rowAt n)).toNat / 128 * 1024 + n % 8 * 128 + (Tg (rowAt n)).toNat % 128 := by
  have h : (BitVec.ofNat 32 n).toNat = n := by rw [BitVec.toNat_ofNat]; omega
  unfold rowPos
  rw [posWord_toNat _ _ (by rw [h]; exact hn) (hT _), h]

theorem rowPos_lt {Tg : Targets} (hT : InCols Tg) {n : ℕ} (hn : n < 8192) : (rowPos Tg n).toNat < 33554432 :=
  posWord_lt _ _ (by rw [BitVec.toNat_ofNat]; omega) (hT _)

end Cert.Proof.Words

end
-- ==== Proof.TileValues.lean ====
/-
  WHAT ONE TILE'S WINDOWS AND VECTORS HOLD, at a symbolic tile. The tile's windows of the arrays, and at an index: what
  a load of sixteen of its targets or rewards reads, the positions it stores (`posBuf`), what the two gathers bring
  (`gatBuf`), and the sum it stores at the end.
-/
module

public import proofs.«01_k».proof.Proof.Words

@[expose] public section

set_option maxRecDepth 16384

noncomputable section

namespace Cert.Proof.TileValues

open Cert.KernelIdeal Cert.KernelIdeal.Gen Cert.Proof.Setup Cert.Proof.Words
open Idealize.ShloMosaic

variable {F : FTy → Type}

/-! ## The tile's worker and windows -/

theorem bound_zero : grid0.bound 0 = 2 := rfl
theorem bound_one : grid0.bound 1 = 16 := rfl

/-- The worker at coordinates `L`. -/
abbrev wL (L : grid0.Coords) : Fin 32 := worker (Fin.cast bound_zero (L 0)) (Fin.cast bound_one (L 1))

theorem wL_val (L : grid0.Coords) : (wL L).val = 2 * (L 1).val + (L 0).val := rfl

/-- Its targets and rewards, the probabilities whole, its row of the result. -/
abbrev tRowK (L : grid0.Coords) : Memref sig .scVector .hbm S256 .i32 := tV.slice (Rect.unit (s := S8192) (k0_off1 L) S256.size (k0_off1_inb L)) (fun _ => rfl)
abbrev rRowK (L : grid0.Coords) : Memref sig .scVector .hbm S256 .f32 := rV.slice (Rect.unit (s := S8192) (k0_off1 L) S256.size (k0_off1_inb L)) (fun _ => rfl)
abbrev aAllK : Memref sig .scVector .hbm S33554432 .f32 := aV.slice (Rect.unit (s := S33554432) ![0] S33554432.size inb_S33554432_S33554432_0) (fun _ => rfl)
abbrev oRowK (L : grid0.Coords) : Memref sig .scVector .hbm S16 .f32 :=
  (oV.slice (Rect.unit (s := S32x16) (k0_off2 L) S1x16.size (k0_off2_inb L)) (fun _ => rfl)).squeeze S16 squeezes_S1x16_S16
/-- The two halves of the positions and of the gathered probabilities. -/
abbrev pHalf (h : ℕ) (inb : ∀ i, (![h, 0] : Fin 2 → ℕ) i + S1x128.size i ≤ S2x128.size i) : Memref sig .scVector .vmem S128 .i32 :=
  (pS.slice (Rect.unit (s := S2x128) ![h, 0] S1x128.size inb) (fun _ => rfl)).squeeze S128 squeezes_S1x128_S128
abbrev gHalf (h : ℕ) (inb : ∀ i, (![h, 0] : Fin 2 → ℕ) i + S1x128.size i ≤ S2x128.size i) : Memref sig .scVector .vmem S128 .f32 :=
  (gS.slice (Rect.unit (s := S2x128) ![h, 0] S1x128.size inb) (fun _ => rfl)).squeeze S128 squeezes_S1x128_S128

/-! ## The contents -/

/-- The tile's targets, rewards, positions and gathered probabilities. -/
def tgtBuf (Tg : Targets) (w : ℕ) : S256.Idx → BitVec 32 := fun y => Tg (rowAt (256 * w + (y 0).val))
def rewBuf (R : Rewards F) (w : ℕ) : S256.Idx → F .f32 := fun y => R (rowAt (256 * w + (y 0).val))
def posBuf (Tg : Targets) (w : ℕ) : S2x128.Idx → BitVec 32 := fun y => rowPos Tg (256 * w + (128 * (y 0).val + (y 1).val))
def gatBuf (A : Probs F) (Tg : Targets) (w : ℕ) : S2x128.Idx → F .f32 := fun y => picked A Tg (256 * w + (128 * (y 0).val + (y 1).val))

/-- A row below the number of rows is its own number. -/
theorem rowAt_eq (y : S8192.Idx) (n : ℕ) (h : (y 0).val = n) : y = rowAt n := by
  subst h
  funext a
  match a with
  | 0 => exact Fin.ext (Nat.mod_eq_of_lt (y 0).isLt).symm

theorem probAt_eq (y : S33554432.Idx) (n : ℕ) (h : (y 0).val = n) : y = probAt n := by
  subst h
  funext a
  match a with
  | 0 => exact Fin.ext (Nat.mod_eq_of_lt (y 0).isLt).symm

/-- The tile's window of the rows starts at row `256 w`. -/
theorem window_row (L : grid0.Coords) (x : S256.Idx) :
    (Rect.unit (s := S8192) (k0_off1 L) S256.size (k0_off1_inb L)).emb x = rowAt (256 * (wL L).val + (x 0).val) := by
  refine rowAt_eq _ _ ?_
  rw [Rect.emb_apply]
  show k0_off1 L 0 + 1 * (x 0).val = _
  rw [k0_off1_eq]
  show 512 * (L 1).val + 256 * (L 0).val + 1 * (x 0).val = _
  rw [wL_val]; omega

/-- What the tile copies into its targets and rewards. -/
theorem tRow_read (L : grid0.Coords) (Tg : Targets) : (tRowK L).view.read (Elt F) Tg = tgtBuf Tg (wL L).val :=
  funext fun x => congrArg Tg (window_row L x)
theorem rRow_read (L : grid0.Coords) (R : Rewards F) : (rRowK L).view.read (Elt F) R = rewBuf R (wL L).val :=
  funext fun x => congrArg R (window_row L x)

/-- A load of sixteen of the copied targets, of the copied rewards. -/
theorem load_tgt (L : grid0.Coords) (Tg : Targets) (f : S256.Idx → BitVec 32) (o : ℕ) (inb : ∀ a, (![o] : Fin 1 → ℕ) a + S16.size a ≤ S256.size a) (l : S16.Idx) :
    tS.view.readAt (Elt F) (Rect.unit (s := S256) ![o] S16.size inb).toLoadRect (tS.view.write (Elt F) f ((tRowK L).view.read (Elt F) Tg) Finset.univ) l
      = Tg (rowAt (256 * (wL L).val + (o + (l 0).val))) := by
  rw [tRow_read]
  show (tS.view.write (Elt F) f (tgtBuf Tg (wL L).val) Finset.univ) ((Rect.unit (s := S256) ![o] S16.size inb).emb l) = _
  rw [View.write_whole_univ]
  show Tg (rowAt (256 * (wL L).val + (o + 1 * (l 0).val))) = _
  rw [Nat.one_mul]

theorem load_rew (L : grid0.Coords) (R : Rewards F) (f : S256.Idx → F .f32) (o : ℕ) (inb : ∀ a, (![o] : Fin 1 → ℕ) a + S16.size a ≤ S256.size a) (l : S16.Idx) :
    rS.view.readAt (Elt F) (Rect.unit (s := S256) ![o] S16.size inb).toLoadRect (rS.view.write (Elt F) f ((rRowK L).view.read (Elt F) R) Finset.univ) l
      = R (rowAt (256 * (wL L).val + (o + (l 0).val))) := by
  rw [rRow_read]
  show (rS.view.write (Elt F) f (rewBuf R (wL L).val) Finset.univ) ((Rect.unit (s := S256) ![o] S16.size inb).emb l) = _
  rw [View.write_whole_univ]
  show R (rowAt (256 * (wL L).val + (o + 1 * (l 0).val))) = _
  rw [Nat.one_mul]

/-! ## The positions -/

/-- The number of the worker's first row, as the tile computes it. -/
def baseWord (L : grid0.Coords) : BitVec 32 :=
  Scalar.muli (Scalar.addi (Scalar.muli (BitVec.ofNat 32 (L 1).val) 2#32) (BitVec.ofNat 32 (L 0).val)) 256#32

theorem row_word (L : grid0.Coords) (o l : ℕ) :
    IntOp.addi (Scalar.addi (baseWord L) (BitVec.ofNat 32 o)) (BitVec.ofNat 32 l) = BitVec.ofNat 32 (256 * (wL L).val + (o + l)) := by
  simp only [baseWord, Scalar.muli, Scalar.addi, IntOp.muli, IntOp.addi]
  refine BitVec.eq_of_toNat_eq ?_
  simp only [BitVec.toNat_add, BitVec.toNat_mul, BitVec.toNat_ofNat, wL_val]
  omega

/-- Sixteen positions, computed from sixteen targets `v` and the number `o` of the group's first row among the worker's. -/
def grpPos (L : grid0.Coords) (o : ℕ) (v : S16.Idx → BitVec 32) : S1x16.Idx → BitVec 32 :=
  shapeCast S1x16 (fun l : S16.Idx => posWord (IntOp.addi (Scalar.addi (baseWord L) (BitVec.ofNat 32 o)) (BitVec.ofNat 32 (0 * 16 + (l 0).val)))
    (shapeCast S16 v shapeCasts_S16_S16 l)) shapeCasts_S16_S1x16

theorem reshape16 (x : S1x16.Idx) : (Shape.reshapeEquiv shapeCasts_S16_S1x16 x : S16.Idx) = fun | 0 => x 1 := by
  refine Shape.reshapeEquiv_eq_of_rowMajor _ ?_
  rw [show S16.rowMajor _ = (⟨1, ![16]⟩ : Shape).rowMajor _ from rfl, Shape.rowMajor_val_one, show S1x16.rowMajor x = (⟨2, ![1, 16]⟩ : Shape).rowMajor x from rfl,
    Shape.rowMajor_val_two]
  have h0 : (x 0).val < 1 := (x 0).isLt
  show (x 1).val = (x 0).val * 16 + (x 1).val
  omega

theorem reshape1x16 (l : S16.Idx) : (Shape.reshapeEquiv shapeCasts_S1x16_S16 l : S1x16.Idx) = fun | 0 => ⟨0, Nat.one_pos⟩ | 1 => l 0 := by
  refine Shape.reshapeEquiv_eq_of_rowMajor _ ?_
  rw [show S16.rowMajor l = (⟨1, ![16]⟩ : Shape).rowMajor l from rfl, Shape.rowMajor_val_one, show S1x16.rowMajor _ = (⟨2, ![1, 16]⟩ : Shape).rowMajor _ from rfl,
    Shape.rowMajor_val_two]
  show 0 * 16 + (l 0).val = (l 0).val
  omega

/-- The positions of a group are the worker's positions where the group's store puts them. -/
theorem grpPos_apply (L : grid0.Coords) (Tg : Targets) (o : ℕ) (v : S16.Idx → BitVec 32) (hv : ∀ l, v l = Tg (rowAt (256 * (wL L).val + (o + (l 0).val))))
    (a b : ℕ) (inb : ∀ i, (![a, b] : Fin 2 → ℕ) i + S1x16.size i ≤ S2x128.size i) (ho : o = 128 * a + b) (x : S1x16.Idx) :
    grpPos L o v x = posBuf Tg (wL L).val ((Rect.unit (s := S2x128) ![a, b] S1x16.size inb).emb x) := by
  unfold grpPos posBuf rowPos
  simp only [shapeCast]
  rw [Shape.reshapeEquiv_self, reshape16, hv, row_word]
  have h0 : (x 0).val = 0 := by have h : (x 0).val < 1 := (x 0).isLt; omega
  have e : ∀ k : ℕ, 256 * (wL L).val + (o + k) = 256 * (wL L).val + (128 * (a + 1 * (x 0).val) + (b + 1 * k)) := fun k => by rw [h0, ho]; omega
  show posWord (BitVec.ofNat 32 (256 * (wL L).val + (o + (0 * 16 + (x 1).val)))) (Tg (rowAt (256 * (wL L).val + (o + (x 1).val))))
    = posWord (BitVec.ofNat 32 (256 * (wL L).val + (128 * (a + 1 * (x 0).val) + (b + 1 * (x 1).val))))
        (Tg (rowAt (256 * (wL L).val + (128 * (a + 1 * (x 0).val) + (b + 1 * (x 1).val)))))
  rw [← e, Nat.zero_mul, Nat.zero_add]

/-- Every position the tile computes is inside the flat array. -/
theorem posBuf_lt {Tg : Targets} (hT : InCols Tg) (w : Fin 32) (y : S2x128.Idx) : (posBuf Tg w.val y).toNat < 33554432 := by
  have h0 : (y 0).val < 2 := (y 0).isLt
  have h1 : (y 1).val < 128 := (y 1).isLt
  have := w.isLt
  exact rowPos_lt hT (by omega)

/-! ## The gathered probabilities -/

theorem reshape128 (l : S128.Idx) : (Shape.reshapeEquiv squeezes_S1x128_S128.numel_eq l : S1x128.Idx) = fun | 0 => ⟨0, Nat.one_pos⟩ | 1 => l 0 := by
  refine Shape.reshapeEquiv_eq_of_rowMajor _ ?_
  rw [show S128.rowMajor l = (⟨1, ![128]⟩ : Shape).rowMajor l from rfl, Shape.rowMajor_val_one, show S1x128.rowMajor _ = (⟨2, ![1, 128]⟩ : Shape).rowMajor _ from rfl,
    Shape.rowMajor_val_two]
  show 0 * 128 + (l 0).val = (l 0).val
  omega

/-- Where element `l` of a half lies. -/
theorem half_emb (h : ℕ) (inb : ∀ i, (![h, 0] : Fin 2 → ℕ) i + S1x128.size i ≤ S2x128.size i) (l : S128.Idx) :
    (Rect.unit (s := S2x128) ![h, 0] S1x128.size inb).emb (Shape.reshapeEquiv squeezes_S1x128_S128.numel_eq l)
      = fun | 0 => ⟨h, by have := inb 0; exact this⟩ | 1 => l 0 := by
  funext a
  refine Fin.ext ?_
  rw [Rect.emb_apply, reshape128]
  match a with
  | 0 => show h + 1 * 0 = h; omega
  | 1 => show 0 + 1 * (l 0).val = (l 0).val; omega

/-- The elements of a half. -/
def halfSet (h : ℕ) : Finset S2x128.Idx := Finset.univ.filter fun y => (y 0).val = h

theorem set_half (h : ℕ) (inb : ∀ i, (![h, 0] : Fin 2 → ℕ) i + S1x128.size i ≤ S2x128.size i) :
    (Rect.unit (s := S2x128) ![h, 0] S1x128.size inb).set = halfSet h := by
  ext y
  rw [Rect.mem_set_unit]
  simp only [halfSet, Finset.mem_filter, Finset.mem_univ, true_and]
  have h1 : (y 1).val < 128 := (y 1).isLt
  constructor
  · intro hy
    have := hy 0
    change h ≤ (y 0).val ∧ (y 0).val < h + 1 at this
    omega
  · intro hy a
    match a with
    | 0 => show h ≤ (y 0).val ∧ (y 0).val < h + 1; omega
    | 1 => show 0 ≤ (y 1).val ∧ (y 1).val < 0 + 128; omega

theorem set_pHalf (h : ℕ) (inb : ∀ i, (![h, 0] : Fin 2 → ℕ) i + S1x128.size i ≤ S2x128.size i) : (pHalf h inb).view.set = halfSet h := by
  show ((pS.view.slice (Rect.unit (s := S2x128) ![h, 0] S1x128.size inb)).reshape S128 squeezes_S1x128_S128.numel_eq).set = _
  rw [View.set_reshape]
  exact (View.set_slice_whole _ _).trans (set_half h inb)
theorem set_gHalf (h : ℕ) (inb : ∀ i, (![h, 0] : Fin 2 → ℕ) i + S1x128.size i ≤ S2x128.size i) : (gHalf h inb).view.set = halfSet h := by
  show ((gS.view.slice (Rect.unit (s := S2x128) ![h, 0] S1x128.size inb)).reshape S128 squeezes_S1x128_S128.numel_eq).set = _
  rw [View.set_reshape]
  exact (View.set_slice_whole _ _).trans (set_half h inb)

theorem halves_disjoint : Disjoint (halfSet 0) (halfSet 1) := by
  refine Finset.disjoint_left.mpr fun y h0 h1 => ?_
  simp only [halfSet, Finset.mem_filter, Finset.mem_univ, true_and] at h0 h1
  omega
theorem halves_cover : halfSet 0 ∪ halfSet 1 = Finset.univ := by
  ext y
  have : (y 0).val < 2 := (y 0).isLt
  simp only [halfSet, Finset.mem_union, Finset.mem_filter, Finset.mem_univ, true_and, iff_true]
  omega

/-- Every offset of a half names a word of the flat array. -/
theorem half_inb {Tg : Targets} (hT : InCols Tg) (w : Fin 32) (h : ℕ) (inb : ∀ i, (![h, 0] : Fin 2 → ℕ) i + S1x128.size i ≤ S2x128.size i) :
    ∀ x, ((pHalf h inb).view.read (Elt F) (posBuf Tg w.val) x).toNat < S33554432.size gathers_S33554432_S128.axis := fun x => posBuf_lt hT w _

/-- What a half's gather brings is the half of the gathered probabilities. -/
theorem gather_half (A : Probs F) {Tg : Targets} (w h : ℕ) (inb : ∀ i, (![h, 0] : Fin 2 → ℕ) i + S1x128.size i ≤ S2x128.size i)
    (hn : S128.numel = S128.size gathers_S33554432_S128.axis')
    (hin : ∀ x, ((pHalf h inb).view.read (Elt F) (posBuf Tg w) x).toNat < S33554432.size gathers_S33554432_S128.axis) (x : S128.Idx) :
    SparseCore.gatherPayload gathers_S33554432_S128 (aAllK.view.read (Elt F) A) (SparseCore.rows ((pHalf h inb).view.read (Elt F) (posBuf Tg w)) hn hin) x
      = gatBuf A Tg w ((gHalf h inb).view.emb x) := by
  have hx : S128.rowMajor.symm ((x gathers_S33554432_S128.axis').cast hn.symm) = x := by
    rw [Equiv.symm_apply_eq]
    refine Fin.ext ?_
    rw [show S128.rowMajor x = (⟨1, ![128]⟩ : Shape).rowMajor x from rfl, Shape.rowMajor_val_one]
    rfl
  unfold SparseCore.gatherPayload
  show A ((Rect.unit (s := S33554432) ![0] S33554432.size inb_S33554432_S33554432_0).emb (gathers_S33554432_S128.idx _ x))
    = A (probAt (posBuf Tg w ((Rect.unit (s := S2x128) ![h, 0] S1x128.size inb).emb (Shape.reshapeEquiv squeezes_S1x128_S128.numel_eq x))).toNat)
  refine congrArg A (probAt_eq _ _ ?_)
  rw [Rect.emb_apply, show (0 : Fin S33554432.rank) = gathers_S33554432_S128.axis from rfl, Shape.Gathers.idx_axis]
  refine ((Nat.zero_add _).trans (Nat.one_mul _)).trans ?_
  exact congrArg (fun z => ((pHalf h inb).view.read (Elt F) (posBuf Tg w) z).toNat) hx

theorem landed_half (A : Probs F) {Tg : Targets} (w h : ℕ) (inb : ∀ i, (![h, 0] : Fin 2 → ℕ) i + S1x128.size i ≤ S2x128.size i)
    (hn : S128.numel = S128.size gathers_S33554432_S128.axis')
    (hin : ∀ x, ((pHalf h inb).view.read (Elt F) (posBuf Tg w) x).toNat < S33554432.size gathers_S33554432_S128.axis) (f : S2x128.Idx → F .f32) :
    ∀ y ∈ (gHalf h inb).view.set, (gHalf h inb).view.write (Elt F) f
      (SparseCore.gatherPayload gathers_S33554432_S128 (aAllK.view.read (Elt F) A) (SparseCore.rows ((pHalf h inb).view.read (Elt F) (posBuf Tg w)) hn hin)) Finset.univ y
        = gatBuf A Tg w y := by
  intro y hy
  obtain ⟨x, -, rfl⟩ := Finset.mem_map.mp hy
  rw [View.write_emb_of_mem _ _ (Finset.mem_univ x), gather_half]
  rfl

/-! ## The sums -/

/-- A group's products: sixteen gathered probabilities, each with its row's reward. -/
theorem prod_apply [FloatOps F] (A : Probs F) (Tg : Targets) (R : Rewards F) (w j a b : ℕ) (inb : ∀ i, (![a, b] : Fin 2 → ℕ) i + S1x16.size i ≤ S2x128.size i)
    (rv : S16.Idx → F .f32) (hv : ∀ l, rv l = R (rowAt (256 * w + (16 * j + (l 0).val)))) (hj : 16 * j = 128 * a + b) (l : S16.Idx) :
    FloatOps.mulf (shapeCast S16 (gS.view.readAt (Elt F) (Rect.unit (s := S2x128) ![a, b] S1x16.size inb).toLoadRect (gatBuf A Tg w)) shapeCasts_S1x16_S16 l)
        (shapeCast S16 rv shapeCasts_S16_S16 l)
      = contrib A Tg R (256 * w + 16 * j + (l 0).val) := by
  have hr : shapeCast S16 rv shapeCasts_S16_S16 l = R (rowAt (256 * w + 16 * j + (l 0).val)) := by
    simp only [shapeCast]
    rw [Shape.reshapeEquiv_self, hv, Nat.add_assoc]
  have hg : shapeCast S16 (gS.view.readAt (Elt F) (Rect.unit (s := S2x128) ![a, b] S1x16.size inb).toLoadRect (gatBuf A Tg w)) shapeCasts_S1x16_S16 l
      = picked A Tg (256 * w + 16 * j + (l 0).val) := by
    simp only [shapeCast]
    rw [reshape1x16]
    show picked A Tg (256 * w + (128 * (a + 1 * 0) + (b + 1 * (l 0).val))) = _
    congr 1
    omega
  rw [hr, hg]
  rfl

/-- The same, of the loads as the tile makes them. -/
theorem group_apply [FloatOps F] (L : grid0.Coords) (A : Probs F) (Tg : Targets) (R : Rewards F) (f : S256.Idx → F .f32) (j a b o : ℕ)
    (inb : ∀ i, (![a, b] : Fin 2 → ℕ) i + S1x16.size i ≤ S2x128.size i) (inb' : ∀ i, (![o] : Fin 1 → ℕ) i + S16.size i ≤ S256.size i)
    (ho : o = 16 * j) (hj : o = 128 * a + b) (l : S16.Idx) :
    FloatOps.mulf (shapeCast S16 (gS.view.readAt (Elt F) (Rect.unit (s := S2x128) ![a, b] S1x16.size inb).toLoadRect (gatBuf A Tg (wL L).val)) shapeCasts_S1x16_S16 l)
        (shapeCast S16 (rS.view.readAt (Elt F) (Rect.unit (s := S256) ![o] S16.size inb').toLoadRect
          (View.write (Elt F) rS.view f (ReadAs.same.apply (View.read (Elt F) (rRowK L).view R)) Finset.univ)) shapeCasts_S16_S16 l)
      = contrib A Tg R (256 * (wL L).val + 16 * j + (l 0).val) :=
  prod_apply A Tg R _ j a b inb _ (fun l => (load_rew L R f o inb' l).trans (by rw [ho])) (ho.symm.trans hj) l

theorem cast16 (v : S16.Idx → F .f32) (l : S16.Idx) : shapeCast S16 v shapeCasts_S16_S16 l = v l := by
  simp only [shapeCast]
  rw [Shape.reshapeEquiv_self]

/-- The chain of the printed sums: zero, and then one product after another. -/
theorem sum_apply [FloatOps F] (c : ℕ → F .f32) {g0 g1 g2 g3 g4 g5 g6 g7 g8 g9 g10 g11 g12 g13 g14 g15 : Vec F S1x16 .f32} {r0 r1 r2 r3 r4 r5 r6 r7 r8 r9 r10 r11 r12 r13 r14 r15 : Vec F S16 .f32} (l : S16.Idx)
    (h0 : FloatOps.mulf (shapeCast S16 g0 shapeCasts_S1x16_S16 l) (shapeCast S16 r0 shapeCasts_S16_S16 l) = c 0) (h1 : FloatOps.mulf (shapeCast S16 g1 shapeCasts_S1x16_S16 l) (shapeCast S16 r1 shapeCasts_S16_S16 l) = c 1)
    (h2 : FloatOps.mulf (shapeCast S16 g2 shapeCasts_S1x16_S16 l) (shapeCast S16 r2 shapeCasts_S16_S16 l) = c 2) (h3 : FloatOps.mulf (shapeCast S16 g3 shapeCasts_S1x16_S16 l) (shapeCast S16 r3 shapeCasts_S16_S16 l) = c 3)
    (h4 : FloatOps.mulf (shapeCast S16 g4 shapeCasts_S1x16_S16 l) (shapeCast S16 r4 shapeCasts_S16_S16 l) = c 4) (h5 : FloatOps.mulf (shapeCast S16 g5 shapeCasts_S1x16_S16 l) (shapeCast S16 r5 shapeCasts_S16_S16 l) = c 5)
    (h6 : FloatOps.mulf (shapeCast S16 g6 shapeCasts_S1x16_S16 l) (shapeCast S16 r6 shapeCasts_S16_S16 l) = c 6) (h7 : FloatOps.mulf (shapeCast S16 g7 shapeCasts_S1x16_S16 l) (shapeCast S16 r7 shapeCasts_S16_S16 l) = c 7)
    (h8 : FloatOps.mulf (shapeCast S16 g8 shapeCasts_S1x16_S16 l) (shapeCast S16 r8 shapeCasts_S16_S16 l) = c 8) (h9 : FloatOps.mulf (shapeCast S16 g9 shapeCasts_S1x16_S16 l) (shapeCast S16 r9 shapeCasts_S16_S16 l) = c 9)
    (h10 : FloatOps.mulf (shapeCast S16 g10 shapeCasts_S1x16_S16 l) (shapeCast S16 r10 shapeCasts_S16_S16 l) = c 10) (h11 : FloatOps.mulf (shapeCast S16 g11 shapeCasts_S1x16_S16 l) (shapeCast S16 r11 shapeCasts_S16_S16 l) = c 11)
    (h12 : FloatOps.mulf (shapeCast S16 g12 shapeCasts_S1x16_S16 l) (shapeCast S16 r12 shapeCasts_S16_S16 l) = c 12) (h13 : FloatOps.mulf (shapeCast S16 g13 shapeCasts_S1x16_S16 l) (shapeCast S16 r13 shapeCasts_S16_S16 l) = c 13)
    (h14 : FloatOps.mulf (shapeCast S16 g14 shapeCasts_S1x16_S16 l) (shapeCast S16 r14 shapeCasts_S16_S16 l) = c 14) (h15 : FloatOps.mulf (shapeCast S16 g15 shapeCasts_S1x16_S16 l) (shapeCast S16 r15 shapeCasts_S16_S16 l) = c 15)
    :
    k0_pay45 (k0_pay43 (k0_pay41 g0 r0 g1 r1 g2 r2 g3 r3) (k0_pay42 g4) r4 g5 r5 g6 r6 g7 r7 g8 r8 g9 r9) (k0_pay44 g10) r10 g11 r11 g12 r12 g13 r13 g14 r14 g15 r15 l
      = [0, 1, 2, 3, 4, 5, 6, 7, 8, 9, 10, 11, 12, 13, 14, 15].foldl (fun acc j => FloatOps.addf acc (c j)) (Scalar.ofBits .f32 0x00000000#32) := by
  simp only [List.foldl_cons, List.foldl_nil]
  rw [← h0, ← h1, ← h2, ← h3, ← h4, ← h5, ← h6, ← h7, ← h8, ← h9, ← h10, ← h11, ← h12, ← h13, ← h14, ← h15]
  unfold k0_pay45 k0_pay44 k0_pay43 k0_pay42 k0_pay41
  exact cast16 _ l

/-- Where lane `l` of the tile's row of the result lies. -/
theorem row_emb (L : grid0.Coords) (l : S16.Idx) : ((oRowK L).view.emb l 0).val = (wL L).val ∧ ((oRowK L).view.emb l 1).val = (l 0).val := by
  have e : (Shape.reshapeEquiv squeezes_S1x16_S16.numel_eq l : S1x16.Idx) = fun | 0 => ⟨0, Nat.one_pos⟩ | 1 => l 0 := reshape1x16 l
  have h : ∀ a, ((oRowK L).view.emb l a).val = k0_off2 L a + 1 * (Shape.reshapeEquiv squeezes_S1x16_S16.numel_eq l a).val := fun a =>
    Rect.emb_apply (Rect.unit (s := S32x16) (k0_off2 L) S1x16.size (k0_off2_inb L)) _ a
  refine ⟨(h 0).trans ?_, (h 1).trans ?_⟩ <;> rw [e, k0_off2_eq]
  · show 2 * (L 1).val + (L 0).val + 1 * 0 = _
    rw [wL_val]; omega
  · show 0 + 1 * (l 0).val = _
    omega

/-- A lane of the partial sums, opened. -/
theorem partials_apply [FloatOps F] (A : Probs F) (Tg : Targets) (R : Rewards F) (y : S32x16.Idx) (w k : ℕ) (h0 : (y 0).val = w) (h1 : (y 1).val = k) :
    partials A Tg R y = [0, 1, 2, 3, 4, 5, 6, 7, 8, 9, 10, 11, 12, 13, 14, 15].foldl (fun acc j => FloatOps.addf acc (contrib A Tg R (256 * w + 16 * j + k)))
      (Scalar.ofBits .f32 0x00000000#32) := by
  subst h0 h1; rfl

end Cert.Proof.TileValues

end
-- ==== Proof.Streams.lean ====
/-
  SEVERAL INDIRECT GATHERS OUTSTANDING ON ONE SEMAPHORE. The kernel starts two indirect gathers on one DMA semaphore
  before it waits for either, and each of the two waits asks for one gather's worth of units. A gather pays the
  semaphore row by row, so the first wait may fire on rows of both gathers, and only the second one knows that every
  row has landed. Both gathers' rows are therefore counted together as ONE batch of row transfers
  (`Transfers.Batch`, one transfer per row, all of the same amount): a gather of `o` rows is the issue of the batch's
  next `o` transfers (`wp_gatherRows`), the waits are the batch's own rules, and at the end the rows' deliveries are
  put back together into the destination written with what was gathered (`landedRows_join`).
-/
module

public import Idealize.ShloMosaic.Lib.Batch
public import Idealize.ShloMosaic.Lib.SparseCore.Stream

@[expose] public section

noncomputable section

namespace Cert.Proof.Streams

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} {Name : Type} [DecidableEq Name] {U : Type} [URA U] {Lvl : Type}

local notation "𝕄" => MT nD τ sig Ix (Elt F) Name U Lvl

/-! ## The issue rights of the next `o` transfers -/

/-- The rights of the transfers from the `j`-th on are those of the next `o` and those from the `(j + o)`-th on. -/
theorem pending_take {n o j : ℕ} (h : j + o ≤ n) (Φ : Fin n → sProp 𝕄) :
    bigSep (Transfers.pending j) Φ
      = iprop((bigSep Finset.univ fun k : Fin o => Φ ⟨j + k.val, by omega⟩) ∗ bigSep (Transfers.pending (j + o)) Φ) := by
  have inj : Function.Injective fun k : Fin o => (⟨j + k.val, by omega⟩ : Fin n) := fun a b hab =>
    Fin.ext (by have := congrArg Fin.val hab; simp only at this; omega)
  have hset : Transfers.pending (n := n) j
      = (Finset.univ.map ⟨fun k : Fin o => (⟨j + k.val, by omega⟩ : Fin n), inj⟩) ∪ Transfers.pending (j + o) := by
    ext t
    simp only [Transfers.pending, Finset.mem_filter, Finset.mem_univ, true_and, Finset.mem_union, Finset.mem_map,
      Function.Embedding.coeFn_mk, Fin.ext_iff]
    constructor
    · intro ht
      by_cases hlt : t.val < j + o
      · exact .inl ⟨⟨t.val - j, by omega⟩, by simp only; omega⟩
      · exact .inr (by omega)
    · rintro (⟨k, hk⟩ | ht) <;> omega
  have hd : Disjoint (Finset.univ.map ⟨fun k : Fin o => (⟨j + k.val, by omega⟩ : Fin n), inj⟩) (Transfers.pending (n := n) (j + o)) := by
    refine Finset.disjoint_left.mpr fun t ht ht' => ?_
    simp only [Transfers.pending, Finset.mem_filter, Finset.mem_univ, true_and, Finset.mem_map, Function.Embedding.coeFn_mk, Fin.ext_iff] at ht ht'
    obtain ⟨k, hk⟩ := ht
    have := k.isLt
    omega
  rw [hset, BI.bigSep_union hd, BI.bigSep_map]; rfl

/-! ## What one row of a gather delivers, and the rows put together -/

section Rows

variable (c : Thread nD τ) {sp : Space} {s₀ s si : Shape} {e : EltTy} {a : Nat}

/-- The list's entry `k`, as an index of the list. -/
abbrev entryOf {o : ℕ} (hn : si.numel = o) (k : Fin o) : si.Idx := si.rowMajor.symm (k.cast hn.symm)

/-- What row `k` of a gather hands over once it has landed: row `k` of the destination, written with the row of the
    source that entry `k` of the list names; entry `k` of the list back; its piece of the source's share back. -/
def landedRow (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) (k : Fin (s.size hg.axis')) : sProp 𝕄 :=
  iprop(((dst.view.loc c ↦[(dst.view.slice (s.rowRect hg.axis' k)).set]{fullShare}
            ((dst.view.slice (s.rowRect hg.axis' k)).write (Elt F) fd
              (fun i => src.view.read (Elt F) fs (hg.rowIdx (rows (offs.view.read (Elt F) fo) hn hin k) i)) Finset.univ))
        ∗ (offs.view.loc c ↦[{offs.view.emb (entryOf hn k)}]{qo} fo))
      ∗ (src.view.loc c ↦[src.view.set]{pieceOf q _ ho k} fs))

instance landedRow_storable (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) (k : Fin (s.size hg.axis')) :
    Storable (upEmb : UEmb _ 𝕄) (landedRow c src dst hg offs hn ho q qo fs fd fo hin k) := by
  unfold landedRow; infer_instance

/-- All rows of a gather, landed, are the destination written with the gather's payload, the source's share and the
    list's share. -/
theorem landedRows_join (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) :
    bigSep Finset.univ (landedRow c src dst hg offs hn ho q qo fs fd fo hin)
      ⊢ (iprop((dst.view.loc c ↦[dst.view.set]{fullShare}
                (dst.view.write (Elt F) fd (gatherPayload hg (src.view.read (Elt F) fs) (rows (offs.view.read (Elt F) fo) hn hin)) Finset.univ))
            ∗ (src.view.loc c ↦[src.view.set]{q} fs) ∗ (offs.view.loc c ↦[offs.view.set]{qo} fo)) : sProp 𝕄) := by
  have hen : Function.Bijective (entryOf (si := si) hn) := si.rowMajor.symm.bijective.comp (finCongr hn.symm).bijective
  have hW : ∀ (k : Fin (s.size hg.axis')) (i : (s.rowShape hg.axis').Idx),
      src.view.read (Elt F) fs (hg.rowIdx (rows (offs.view.read (Elt F) fo) hn hin k) i)
        = gatherPayload hg (src.view.read (Elt F) fs) (rows (offs.view.read (Elt F) fo) hn hin) ((s.rowRect hg.axis' k).emb i) := fun k i => by
    unfold gatherPayload; rw [Shape.Gathers.idx_rowRect_emb]
  have hjoin : bigSep Finset.univ (fun k => (dst.view.loc c ↦[(dst.view.slice (s.rowRect hg.axis' k)).set]{fullShare}
            ((dst.view.slice (s.rowRect hg.axis' k)).write (Elt F) fd
              (fun i => src.view.read (Elt F) fs (hg.rowIdx (rows (offs.view.read (Elt F) fo) hn hin k) i)) Finset.univ) : sProp 𝕄))
      ⊢ _ := pointsTo_rows_write c dst.view hg.axis' fd _ _ hW
  unfold landedRow
  iintro H
  ihave H := Transfers.bigSep_sep_out _ _ _ $$ H
  icases H with ⟨H, Hs⟩
  ihave H := Transfers.bigSep_sep_out _ _ _ $$ H
  icases H with ⟨Hd, Ho⟩
  isplitl [Hd]; · iapply hjoin $$ Hd
  isplitl [Hs]; · iapply (Entails.of_eq (pointsTo_piecesOf (src.view.set) fs ho q).symm) $$ Hs
  iapply (Entails.of_eq (pointsTo_entries c offs.view (entryOf hn) hen qo fo).symm) $$ Ho

end Rows

/-! ## The issue of a gather into a batch -/

section Issue

variable [Preorder Lvl] {Λ : Labels} {defs : Defs nD τ sig (Elt F) Λ}
variable (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

/-- An indirect gather started with its rows counted as the next transfers of a batch. Holding a share of the source,
    the destination, a share of the offset list whose words all name rows of the source, and the batch with `j` of its
    row transfers started, whose next deliveries are this gather's rows', the tile starts the gather and continues
    with the batch at `j + o` started, `o` the number of the gather's rows. -/
theorem wp_gatherRows [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (ι : Ix) (N : ℕ) (hN : ∀ i, (dst.slice (s.rowRect hg.axis' i) (s.stride_rowRect hg.axis' i)).view.dmaCredit = N)
    (ho : 0 < s.size hg.axis') (hin : ∀ x, (offs.view.read (Elt F) fo x).toNat < s₀.size hg.axis)
    {n j u : ℕ} {D : Fin n → sProp 𝕄} (hj : j + s.size hg.axis' ≤ n) (hu : u ≤ j * N)
    (hD : ∀ i : Fin (s.size hg.axis'), landedRow c src dst hg offs hn ho q qo fs fd fo hin i ⊢ D ⟨j + i.val, by omega⟩) :
    iprop((src.view.loc c ↦[src.view.set]{q} fs) ∗ (dst.view.loc c ↦[dst.view.set]{fullShare} fd)
        ∗ (offs.view.loc c ↦[offs.view.set]{qo} fo) ∗ Transfers.Batch EC c (.dma sem) ι N D j u)
      ⊢ iprop((Transfers.Batch EC c (.dma sem) ι N D (j + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun i w => (rowOf (s₀.size hg.axis) w).map (gatherRow c src dst hg sem hsrc he hsp hr i)) 0
  let rd : Fin (s.size hg.axis') → RowDma τ sig (Elt F) c.2 sem := fun i =>
    gatherRow c src dst hg sem hsrc he hsp hr i (rows (offs.view.read (Elt F) fo) hn hin i)
  have hA : S.RowsAgree := by
    intro i x x' ρ ρ' h h'
    obtain ⟨_, _, rfl⟩ := Option.map_eq_some_iff.mp h
    obtain ⟨_, _, rfl⟩ := Option.map_eq_some_iff.mp h'
    rfl
  have hrd : ∀ i, S.row i (S.word fo i) = some (rd i) := fun i => by
    change (rowOf (s₀.size hg.axis) (offs.view.read (Elt F) fo (S.entry i))).map _ = _
    rw [rowOf_of_lt (hin _)]; rfl
  have hen : Function.Bijective S.entry := si.rowMajor.symm.bijective.comp (finCongr hn.symm).bijective
  have hsum : ∑ i, (rd i).dst.view.dmaCredit = s.size hg.axis' * N := by
    rw [Finset.sum_congr rfl fun i _ => (hN i : (rd i).dst.view.dmaCredit = N), Finset.sum_const, Finset.card_univ, Fintype.card_fin, smul_eq_mul]
  unfold Transfers.Batch
  iintro ⟨Hs, Hd, Ho, ⟨%γ, %γ₀, %κ, #Hinv, HI, H0, Hcred⟩⟩ Hk
  ihave HI' := (Entails.of_eq (pending_take hj (fun t => Idealize.SL.ExclCount.count EC (γ t) 0))) $$ HI
  icases HI' with ⟨Hγ, HI⟩
  ihave Hd' := (Entails.of_eq (pointsTo_rows c dst.view hg.axis' fullShare fd)) $$ Hd
  ihave Ho' := (Entails.of_eq (pointsTo_entries c offs.view S.entry hen qo fo)) $$ Ho
  ihave Hs' := (Entails.of_eq (pointsTo_piecesOf (src.view.set) fs ho q)) $$ Hs
  iapply (wp_enqueueIndirectDma 𝒱 c bd Set.univ (qo := qo) (fo := fo) (rd := rd) ι _ hA hrd hsum) $$ [Hd' Ho' Hs' Hγ]
  · have hrow : ∀ i, iprop(inv κ (Transfers.batchBody EC (c, SemLoc.dma sem) N D γ γ₀)
          ∗ ((((dst.view.loc c ↦[(dst.view.slice (s.rowRect hg.axis' i)).set]{fullShare} fd) ∗ S.heldEntry qo fo i)
          ∗ (src.view.loc c ↦[src.view.set]{pieceOf q _ ho i} fs)) ∗ Idealize.SL.ExclCount.count EC (γ ⟨j + i.val, by omega⟩) 0))
        ⊢ iprop(S.heldEntry qo fo i ∗ (S.heldEntry qo fo i -∗ rowRes c (rd i))) := fun i => by
      iintro ⟨#Hinv, ⟨⟨Hr, He⟩, Hsq⟩, Hγi⟩
      isplitl [He]; · iexact He
      iintro He
      unfold rowRes
      iexists pieceOf q _ ho i, fs, iprop((dst.view.loc c ↦[(dst.view.slice (s.rowRect hg.axis' i)).set]{fullShare}
            ((dst.view.slice (s.rowRect hg.axis' i)).write (Elt F) fd
              (fun x => src.view.read (Elt F) fs (hg.rowIdx (rows (offs.view.read (Elt F) fo) hn hin i) x)) Finset.univ)) ∗ S.heldEntry qo fo i)
      isplitl [Hsq]; · iexact Hsq
      isplitl [Hr He]
      · iapply writeUpdate_frame
        isplitl [Hr]
        · iapply (pointsTo_writeUpdate c (v := dst.view.slice (s.rowRect hg.axis' i)) subset_rfl) $$ Hr
        · iexact He
      · have hc : iprop(inv κ (Transfers.batchBody EC (c, SemLoc.dma sem) N D γ γ₀) ∗ Idealize.SL.ExclCount.count EC (γ ⟨j + i.val, by omega⟩) 0)
            ⊢ creditUpdate (c, SemLoc.dma sem) (rd i).dst.view.dmaCredit 0 (landedRow c src dst hg offs hn ho q qo fs fd fo hin i) := by
          rw [show (rd i).dst.view.dmaCredit = N from hN i]
          exact Transfers.batch_creditUpdate EC ⟨j + i.val, by omega⟩ (hD i)
        iapply hc
        isplitr; · iexact Hinv
        iexact Hγi
    unfold Stream.res
    ihave H1 := Transfers.bigSep_sep_in _ _ _ $$ [Hd' Ho']; · isplitl [Hd'] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun i _ => hrow i)
    isplitr; · iexact Hinv
    iexact H3
  iintro Hcred'
  iapply Hk
  iexists γ, γ₀, κ
  isplitr; · iexact Hinv
  isplitl [HI]; · iexact HI
  isplitl [H0]; · iexact H0
  rw [show (j + s.size hg.axis') * N - u = (j * N - u) + s.size hg.axis' * N by rw [Nat.add_mul]; omega, ← tallyAt_add]
  iapply (cred_add _ _).2
  isplitl [Hcred] <;> iassumption

/-- A wait of a gather's units that does not drain the batch: it hands nothing back. -/
theorem wp_waitRows [EC.LandsIn (upEmb : UEmb _ 𝕄)] {s' : Shape} {e' : EltTy} {κ' : Kind} {sem : DmaSem sig}
    {srcw : Memref sig c.2.kind sp s' e'} {dstw : Memref sig κ' .vmem s e} {hsrc : srcw.view.WordExact} {hdst : dstw.view.WordExact}
    {k : PUnit → Prog (TpuEff nD τ sig (Elt F) Λ c.2) α} (ι : Ix) {N : ℕ} (q : ℕ) (hJ : dstw.view.dmaCredit = q * N) {n : ℕ}
    {D : Fin n → sProp 𝕄} {j u : ℕ} (hu : u + q * N ≤ N * j) {O : CellTallies nD τ sig Ix} {W : Waits sig Ix} :
    iprop(Transfers.Batch EC c (.dma sem) ι N D j u ∗ owes c O W ∗ MayWait c (.dma sem) ι O)
      ⊢ iprop((iprop(Transfers.Batch EC c (.dma sem) ι N D j (u + q * N) ∗ owes c O (insert (SemLoc.dma sem, ι) W)) -∗ wp frame (wpE defs 𝒱 c bd) Set.univ (k ⟨⟩) Q)
          -∗ wp frame (wpE defs 𝒱 c bd) Set.univ (waitIndirectGather sem srcw dstw hsrc hdst >>= k) Q) :=
  Transfers.wp_waitBatchMulO EC 𝒱 c bd ι q hJ hu

/-- The wait that drains the batch: every row is handed over and the semaphore is at zero. -/
theorem wp_waitRowsAll [EC.LandsIn (upEmb : UEmb _ 𝕄)] {s' : Shape} {e' : EltTy} {κ' : Kind} {sem : DmaSem sig}
    {srcw : Memref sig c.2.kind sp s' e'} {dstw : Memref sig κ' .vmem s e} {hsrc : srcw.view.WordExact} {hdst : dstw.view.WordExact}
    {k : PUnit → Prog (TpuEff nD τ sig (Elt F) Λ c.2) α} (ι : Ix) {N J : ℕ} (hJ : dstw.view.dmaCredit = J) (hN0 : 0 < N) {n : ℕ}
    {D : Fin n → sProp 𝕄} {u : ℕ} (hu : u + J = N * n) {O : CellTallies nD τ sig Ix} {W : Waits sig Ix} :
    iprop(Transfers.Batch EC c (.dma sem) ι N D n u ∗ owes c O W ∗ MayWait c (.dma sem) ι O)
      ⊢ iprop((iprop(bigSep Finset.univ D ∗ semVal (c, .dma sem) 0 ∗ owes c O (insert (SemLoc.dma sem, ι) W)) -∗ wp frame (wpE defs 𝒱 c bd) Set.univ (k ⟨⟩) Q)
          -∗ wp frame (wpE defs 𝒱 c bd) Set.univ (waitIndirectGather sem srcw dstw hsrc hdst >>= k) Q) :=
  Transfers.wp_waitBatchAllO EC 𝒱 c bd ι hJ hN0 hu

/-! ## A batch made of two gathers' rows -/

/-- The deliveries of a batch whose first `o` transfers are one gather's rows and whose next `o'` another's. -/
def twoOf {o o' : ℕ} (A : Fin o → sProp 𝕄) (B : Fin o' → sProp 𝕄) (t : Fin (o + o')) : sProp 𝕄 := Sum.elim A B (finSumFinEquiv.symm t)

instance twoOf_storable {o o' : ℕ} (A : Fin o → sProp 𝕄) (B : Fin o' → sProp 𝕄) [∀ k, Storable (upEmb : UEmb _ 𝕄) (A k)]
    [∀ k, Storable (upEmb : UEmb _ 𝕄) (B k)] (t : Fin (o + o')) : Storable (upEmb : UEmb _ 𝕄) (twoOf A B t) := by
  unfold twoOf; cases finSumFinEquiv.symm t <;> simp only [Sum.elim_inl, Sum.elim_inr] <;> infer_instance

omit [Preorder Lvl] in
/-- The first gather's row `k` is transfer `k`. -/
theorem twoOf_left {o o' : ℕ} (A : Fin o → sProp 𝕄) (B : Fin o' → sProp 𝕄) (k : Fin o) (t : Fin (o + o')) (h : t.val = k.val) : twoOf A B t = A k := by
  rw [show t = finSumFinEquiv (Sum.inl k) from Fin.ext (by simpa using h)]; simp [twoOf]

omit [Preorder Lvl] in
/-- The second gather's row `k` is transfer `o + k`. -/
theorem twoOf_right {o o' : ℕ} (A : Fin o → sProp 𝕄) (B : Fin o' → sProp 𝕄) (k : Fin o') (t : Fin (o + o')) (h : t.val = o + k.val) : twoOf A B t = B k := by
  rw [show t = finSumFinEquiv (Sum.inr k) from Fin.ext (by simpa using h)]; simp [twoOf]

omit [Preorder Lvl] in
/-- All deliveries together are the first gather's and the second's. -/
theorem bigSep_twoOf {o o' : ℕ} (A : Fin o → sProp 𝕄) (B : Fin o' → sProp 𝕄) :
    bigSep Finset.univ (twoOf A B) = iprop(bigSep Finset.univ A ∗ bigSep Finset.univ B) := by
  rw [BI.bigSep_univ_equiv finSumFinEquiv, BI.bigSep_univ_sum]
  congr 1 <;> exact BI.bigSep_congr fun k _ => by simp [twoOf]

end Issue

end Cert.Proof.Streams

end
-- ==== Proof.Tile.lean ====
/-
  ONE TILE'S RUN, at a symbolic SparseCore and tile.
-/
module

public import proofs.«01_k».proof.Proof.TileValues
public import proofs.«01_k».proof.Proof.Streams

@[expose] public section

set_option maxRecDepth 16384

noncomputable section

namespace Cert.Proof.Tile

open Cert.KernelIdeal Cert.KernelIdeal.Gen Cert.Proof.Setup Cert.Proof.Words Cert.Proof.TileValues

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)

abbrev cV (L : grid0.Coords) : Fin τ.nSC := (L 0).castLE hcore0
abbrev jV (L : grid0.Coords) : Fin τ.nSub := (L 1).castLE hsub0
/-- The thread of the tile at coordinates `L`. -/
abbrev thr (d : Dev nD) (L : grid0.Coords) : Thread nD τ := V d (cV L) (jV L)

/-! ## The tile's row of the result -/

theorem orow_eq : Rect.unit (s := S32x16) (k0_off2 L) S1x16.size (k0_off2_inb L) = oRow (wL L) := by
  unfold oRow Rect.part Rect.block
  congr 1 <;> funext a
  · rw [k0_off2_eq]
    match a with
    | 0 => simp only [Shape.partIx, Shape.partSize, worker]; simp; rfl
    | 1 => simp [Shape.partIx, Shape.partSize]
  · match a with
    | 0 => simp [Shape.partSize]
    | 1 => simp [Shape.partSize]

theorem set_oRowK : (oRowK L).view.set = oRowSet (wL L) := by
  show ((oV.view.slice (Rect.unit (s := S32x16) (k0_off2 L) S1x16.size (k0_off2_inb L))).reshape S16 squeezes_S1x16_S16.numel_eq).set = (oV.view.slice (oRow (wL L))).set
  rw [View.set_reshape]
  exact orow_eq L ▸ rfl

theorem pts_oRowK (f : Buf (Elt F) (oLoc d)) :
    ((oRowK L).view.loc (thr d L) ↦[(oRowK L).view.set]{fullShare} f : sProp 𝕄) = oLoc d ↦[oRowSet (wL L)]{fullShare} f := by
  rw [set_oRowK]

/-! ## The tile's own cells and buffers -/

abbrev gCell (d : Dev nD) (L : grid0.Coords) : GSem nD τ sig := (thr d L, .dma cc0_scratch5.sem)
abbrev tCell (d : Dev nD) (L : grid0.Coords) : GSem nD τ sig := (thr d L, .dma cc0_scoped0.sem)
abbrev rCell (d : Dev nD) (L : grid0.Coords) : GSem nD τ sig := (thr d L, .dma cc0_scoped1.sem)
abbrev oCell (d : Dev nD) (L : grid0.Coords) : GSem nD τ sig := (thr d L, .dma cc0_scoped2.sem)

theorem ownSems0_tile :
    (ownSems0 (thr d L) : sProp 𝕄)
      = iprop(semVal (gCell d L) 0 ∗ semVal (tCell d L) 0 ∗ semVal (rCell d L) 0 ∗ semVal (oCell d L) 0
          ∗ bigSep (((((ownCells (thr d L)).erase (gCell d L)).erase (tCell d L)).erase (rCell d L)).erase (oCell d L)) fun g => semVal g 0) := by
  have hg : gCell d L ∈ ownCells (thr d L) := mem_ownCells.mpr ⟨rfl, by show (SemLoc.dma cc0_scratch5.sem : SemLoc sig).isScoped .scVector = true; decide⟩
  have ht : tCell d L ∈ ownCells (thr d L) := mem_ownCells.mpr ⟨rfl, by show (SemLoc.dma cc0_scoped0.sem : SemLoc sig).isScoped .scVector = true; decide⟩
  have hr : rCell d L ∈ ownCells (thr d L) := mem_ownCells.mpr ⟨rfl, by show (SemLoc.dma cc0_scoped1.sem : SemLoc sig).isScoped .scVector = true; decide⟩
  have ho : oCell d L ∈ ownCells (thr d L) := mem_ownCells.mpr ⟨rfl, by show (SemLoc.dma cc0_scoped2.sem : SemLoc sig).isScoped .scVector = true; decide⟩
  unfold SparseCore.Cfg.ownSems0
  rw [SparseCore.bigSep_erase' hg,
    SparseCore.bigSep_erase' (Finset.mem_erase.mpr ⟨by simp [gCell, tCell]; decide, ht⟩),
    SparseCore.bigSep_erase' (Finset.mem_erase.mpr ⟨by simp [tCell, rCell]; decide, Finset.mem_erase.mpr ⟨by simp [gCell, rCell]; decide, hr⟩⟩),
    SparseCore.bigSep_erase' (Finset.mem_erase.mpr ⟨by simp [rCell, oCell]; decide, Finset.mem_erase.mpr ⟨by simp [tCell, oCell]; decide,
      Finset.mem_erase.mpr ⟨by simp [gCell, oCell]; decide, ho⟩⟩⟩)]

/-- The tile's five scratch buffers are among its own, at some contents. -/
theorem ownBufs_tile :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f) ∗ (∃ f, (thr d L).loc cc0_scratch4 ↦{fullShare} f)
          ∗ bigSep ((((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3)).erase ((Proc.scVector (cV L) (jV L)).devRef cc0_scratch4))
              fun b => iprop(∃ f, ((d, b) : Loc nD τ sig) ↦{fullShare} f)) := by
  have own : ∀ r : Ref sig .scVector, ((Proc.scVector (cV L) (jV L)).devRef r).owner = .proc (.scVector (cV L) (jV L)) →
      (Proc.scVector (cV L) (jV L)).devRef r ∈ ownRefs (τ := τ) (.scVector (cV L) (jV L)) := fun r h =>
    SparseCore.Cfg.mem_ownRefs_of_owner (p := Proc.scVector (cV L) (jV L)) h
  have ne : ∀ {a b : Ref sig .scVector}, a ≠ b → (Proc.scVector (cV L) (jV L)).devRef a ≠ (Proc.scVector (cV L) (jV L)).devRef b :=
    fun h e => h (Proc.devRef_injective _ e)
  unfold SparseCore.Cfg.ownBufs
  refine (SparseCore.bigSep_erase' (own cc0_scratch0 rfl)).trans ?_
  rw [SparseCore.bigSep_erase' (Finset.mem_erase.mpr ⟨ne (by decide), own cc0_scratch1 rfl⟩),
    SparseCore.bigSep_erase' (Finset.mem_erase.mpr ⟨ne (by decide), Finset.mem_erase.mpr ⟨ne (by decide), own cc0_scratch2 rfl⟩⟩),
    SparseCore.bigSep_erase' (Finset.mem_erase.mpr ⟨ne (by decide), Finset.mem_erase.mpr ⟨ne (by decide), Finset.mem_erase.mpr ⟨ne (by decide), own cc0_scratch3 rfl⟩⟩⟩),
    SparseCore.bigSep_erase' (Finset.mem_erase.mpr ⟨ne (by decide), Finset.mem_erase.mpr ⟨ne (by decide), Finset.mem_erase.mpr ⟨ne (by decide),
      Finset.mem_erase.mpr ⟨ne (by decide), own cc0_scratch4 rfl⟩⟩⟩⟩)]

/-! ## The two gathers -/

/-- What row `k` of the gather of half `h` delivers. -/
def rowsOf (w : ℕ) (q : PosShare TreeShare) (A : Probs F) (Tg : Targets) (f : S2x128.Idx → F .f32)
    (h : ℕ) (inb : ∀ i, (![h, 0] : Fin 2 → ℕ) i + S1x128.size i ≤ S2x128.size i)
    (hin : ∀ x, ((pHalf h inb).view.read (Elt F) (posBuf Tg w) x).toNat < S33554432.size gathers_S33554432_S128.axis)
    (k : Fin (S128.size gathers_S33554432_S128.axis')) : sProp 𝕄 :=
  Streams.landedRow (thr d L) aAllK (gHalf h inb) gathers_S33554432_S128 (pHalf h inb) rfl (by decide) q fullShare A f (posBuf Tg w) hin k

instance rowsOf_storable (w : ℕ) (q : PosShare TreeShare) (A : Probs F) (Tg : Targets) (f : S2x128.Idx → F .f32)
    (h : ℕ) (inb : ∀ i, (![h, 0] : Fin 2 → ℕ) i + S1x128.size i ≤ S2x128.size i)
    (hin : ∀ x, ((pHalf h inb).view.read (Elt F) (posBuf Tg w) x).toNat < S33554432.size gathers_S33554432_S128.axis)
    (k : Fin (S128.size gathers_S33554432_S128.axis')) : Storable (upEmb : UEmb _ 𝕄) (rowsOf d L w q A Tg f h inb hin k) :=
  Streams.landedRow_storable _ _ _ _ _ _ _ _ _ _ _ _ _ _

/-- A half's rows together: the half at the gathered probabilities, the probabilities' share, the half of the positions. -/
theorem rowsOf_join (w : ℕ) (q : PosShare TreeShare) (A : Probs F) (Tg : Targets) (f : S2x128.Idx → F .f32)
    (h : ℕ) (inb : ∀ i, (![h, 0] : Fin 2 → ℕ) i + S1x128.size i ≤ S2x128.size i)
    (hin : ∀ x, ((pHalf h inb).view.read (Elt F) (posBuf Tg w) x).toNat < S33554432.size gathers_S33554432_S128.axis) :
    bigSep Finset.univ (rowsOf d L w q A Tg f h inb hin)
      ⊢ (iprop(((gHalf h inb).view.loc (thr d L) ↦[(gHalf h inb).view.set]{fullShare} gatBuf A Tg w)
          ∗ (aAllK.view.loc (thr d L) ↦[aAllK.view.set]{q} A) ∗ ((pHalf h inb).view.loc (thr d L) ↦[(pHalf h inb).view.set]{fullShare} posBuf Tg w)) : sProp 𝕄) := by
  have hj := Streams.landedRows_join (Ix := HIx 1) (Name := ℕ) (U := UU) (Lvl := ℕ) (thr d L) aAllK (gHalf h inb) gathers_S33554432_S128 (pHalf h inb) rfl (by decide) q fullShare A f (posBuf Tg w) hin
  refine hj.trans (Entails.of_eq ?_)
  exact congrArg (fun P : sProp 𝕄 => iprop(P ∗ _)) (pointsTo_congr (landed_half A w h inb rfl hin f))

theorem pts_pHalves (f : S2x128.Idx → BitVec 32) :
    (pS.view.loc (thr d L) ↦{fullShare} f : sProp 𝕄)
      = iprop(((pHalf 0 inb_S2x128_S1x128_0_0).view.loc (thr d L) ↦[(pHalf 0 inb_S2x128_S1x128_0_0).view.set]{fullShare} f)
          ∗ ((pHalf 1 inb_S2x128_S1x128_1_0).view.loc (thr d L) ↦[(pHalf 1 inb_S2x128_S1x128_1_0).view.set]{fullShare} f)) := by
  rw [set_pHalf, set_pHalf]
  have h := pointsTo_union (ℓ := pS.view.loc (thr d L)) (I := halfSet 0) (J := halfSet 1) (q := fullShare) (Val := Elt F) (Name := ℕ) (U := UU) (Lvl := ℕ) (Ix := HIx 1) (f := f) halves_disjoint
  refine Eq.trans ?_ (h.1.antisymm h.2)
  exact congrArg (fun I : Finset S2x128.Idx => (pS.view.loc (thr d L) ↦[I]{fullShare} f : sProp 𝕄)) halves_cover.symm
theorem pts_gHalves (f : S2x128.Idx → F .f32) :
    (gS.view.loc (thr d L) ↦{fullShare} f : sProp 𝕄)
      = iprop(((gHalf 0 inb_S2x128_S1x128_0_0).view.loc (thr d L) ↦[(gHalf 0 inb_S2x128_S1x128_0_0).view.set]{fullShare} f)
          ∗ ((gHalf 1 inb_S2x128_S1x128_1_0).view.loc (thr d L) ↦[(gHalf 1 inb_S2x128_S1x128_1_0).view.set]{fullShare} f)) := by
  rw [set_gHalf, set_gHalf]
  have h := pointsTo_union (ℓ := gS.view.loc (thr d L)) (I := halfSet 0) (J := halfSet 1) (q := fullShare) (Val := Elt F) (Name := ℕ) (U := UU) (Lvl := ℕ) (Ix := HIx 1) (f := f) halves_disjoint
  refine Eq.trans ?_ (h.1.antisymm h.2)
  exact congrArg (fun I : Finset S2x128.Idx => (gS.view.loc (thr d L) ↦[I]{fullShare} f : sProp 𝕄)) halves_cover.symm

/-! ## The run -/

variable [FloatOps F] (m : Ops F)

set_option maxHeartbeats 1000000 in
theorem tile_body (hF : (K (F := F)).Facts) (hT : InCols (m.Tg d)) (O : CellTallies nD τ sig (HIx 1)) (W : Waits sig (HIx 1)) (hO : ∀ g, O g none = 0) :
    iprop(levAts (K (F := F)).L (K (F := F)).lev ∗ emp ∗ goPts m d (wL L)
        ∗ scopedBufs (thr d L) ∗ scopedSems0 (thr d L) ∗ owes (thr d L) O W)
      ⊢ wp frame (wpE (defs₀ (F := F)) 𝒱₀ (thr d L) none) Set.univ
          (cc0_gather_loss L aV (Memref.isWhole_whole _) tV (Memref.isWhole_whole _) rV (Memref.isWhole_whole _) oV (Memref.isWhole_whole _)
            tS (Memref.isWhole_whole _) pS (Memref.isWhole_whole _) gS (Memref.isWhole_whole _) rS (Memref.isWhole_whole _) sS (Memref.isWhole_whole _)
            cc0_scratch5 cc0_scoped0 cc0_scoped1 cc0_scoped2)
          fun _ => iprop(tdPts m d (wL L) ∗ scopedBufs (thr d L) ∗ scopedSems0 (thr d L)
            ∗ ∃ W', ⌜∀ p ∈ W', p ∈ W ∨ p.2 = none⌝ ∗ owes (thr d L) O W') := by
  simp only [cc0_gather_loss_eq_skeleton]; unfold cc0_gather_loss_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton]
  rw [(K (F := F)).scopedBufs_V hF d (cV L) (jV L), SparseCore.Cfg.scopedSems0_V (Val := Elt F) d (cV L) (jV L), ownSems0_tile, ownBufs_tile]
  iintro ⟨#Hlv, -, ⟨⟨Ha, Ht, Hr⟩, Ho⟩, ⟨⟨%f0, Hs0⟩, ⟨%f1, Hs1⟩, ⟨%f2, Hs2⟩, ⟨%f3, Hs3⟩, ⟨%f4, Hs4⟩, Hbufs⟩, ⟨HcG, HcT, HcR, HcO, Hsems⟩, HO⟩
  ihave Hmw := (show levAts (K (F := F)).L (K (F := F)).lev ⊢ Transfers.MayWaits (thr d L) (default : HIx 1) O from
    (K (F := F)).mayWaits_none (thr := thr d L) hO) $$ Hlv
  ihave Ho := (Entails.of_eq (pts_oRowK (F := F) d L _).symm) $$ Ho
  ihave Ht := (pointsTo_split_subset (ℓ := (tRowK L).view.loc (thr d L)) (q := shr (wL L)) (f := (m.Tg d : Buf (Elt F) (tLoc d))) (S := Finset.univ) (Finset.subset_univ (tRowK L).view.set)).1 $$ Ht
  icases Ht with ⟨Ht, Htr⟩
  ihave Hr := (pointsTo_split_subset (ℓ := (rRowK L).view.loc (thr d L)) (q := shr (wL L)) (f := (m.R d : Buf (Elt F) (rLoc d))) (S := Finset.univ) (Finset.subset_univ (rRowK L).view.set)).1 $$ Hr
  icases Hr with ⟨Hr, Hrr⟩
  ihave Hs0 := (Entails.of_eq (show ((thr d L).loc cc0_scratch0 ↦{fullShare} f0 : sProp 𝕄) = tS.view.loc (thr d L) ↦{fullShare} f0 from rfl)) $$ Hs0
  ihave Hs1 := (Entails.of_eq (show ((thr d L).loc cc0_scratch1 ↦{fullShare} f1 : sProp 𝕄) = pS.view.loc (thr d L) ↦{fullShare} f1 from rfl)) $$ Hs1
  ihave Hs2 := (Entails.of_eq (show ((thr d L).loc cc0_scratch2 ↦{fullShare} f2 : sProp 𝕄) = gS.view.loc (thr d L) ↦{fullShare} f2 from rfl)) $$ Hs2
  ihave Hs3 := (Entails.of_eq (show ((thr d L).loc cc0_scratch3 ↦{fullShare} f3 : sProp 𝕄) = rS.view.loc (thr d L) ↦{fullShare} f3 from rfl)) $$ Hs3
  ihave Hs4 := (Entails.of_eq (show ((thr d L).loc cc0_scratch4 ↦{fullShare} f4 : sProp 𝕄) = sS.view.loc (thr d L) ↦{fullShare} f4 from rfl)) $$ Hs4
  sl_exec
  have hpos : ∀ g : S2x128.Idx → BitVec 32, (∀ y, g y = posBuf (m.Tg d) (wL L).val y) → g = posBuf (m.Tg d) (wL L).val := fun g h => funext h
  ihave Hs1 := (Entails.of_eq (congrArg (fun g : Buf (Elt F) (pS.view.loc (thr d L)) => (pS.view.loc (thr d L) ↦{fullShare} g : sProp 𝕄)) (hpos _ ?hp))) $$ Hs1
  case hp =>
    intro y
    refine (congrFun (View.read_whole (Val := Elt F) cc0_scratch1 _) y).symm.trans ?_
    refine View.read_writes_apply_of_pieces (v := pS.view) (Val := Elt F) f1 (posBuf (m.Tg d) (wL L).val) _ ?_ y ?_
    · intro p hp
      simp only [List.mem_cons, List.not_mem_nil, or_false] at hp
      rcases hp with rfl | rfl | rfl | rfl | rfl | rfl | rfl | rfl | rfl | rfl | rfl | rfl | rfl | rfl | rfl | rfl <;> dsimp only <;> intro x <;>
        exact grpPos_apply L (m.Tg d) _ _ (load_tgt L (m.Tg d) f0 _ _) _ _ _ (by decide) x
    · refine View.cover_of_tiled (s := S2x128) _ ![1, 16] ?_ y; rfl
  ihave Hs1 := (Entails.of_eq (pts_pHalves (F := F) d L (posBuf (m.Tg d) (wL L).val))) $$ Hs1
  icases Hs1 with ⟨Hp0, Hp1⟩
  ihave Hs2 := (Entails.of_eq (pts_gHalves d L f2)) $$ Hs2
  icases Hs2 with ⟨Hg0, Hg1⟩
  ihave Ha := (pointsTo_split_subset (ℓ := aAllK.view.loc (thr d L)) (q := shr (wL L)) (f := (m.A d : Buf (Elt F) (aLoc d))) (S := Finset.univ) (Finset.subset_univ aAllK.view.set)).1 $$ Ha
  icases Ha with ⟨Ha, Har⟩
  ihave Ha := (pointsTo_share (PosShare.mem_left_op_right (shr (wL L)))).1 $$ Ha
  icases Ha with ⟨Ha0, Ha1⟩
  imod (Transfers.batch_alloc' (Lvl := ℕ) countersEmb (thr d L) (default : HIx 1) 32
    (Streams.twoOf (rowsOf d L (wL L).val (shr (wL L)).left (m.A d) (m.Tg d) f2 0 inb_S2x128_S1x128_0_0 (half_inb hT _ _ _))
      (rowsOf d L (wL L).val (shr (wL L)).right (m.A d) (m.Tg d) f2 1 inb_S2x128_S1x128_1_0 (half_inb hT _ _ _)))
    (sm := .dma cc0_scratch5.sem) (E := Set.univ)) $$ HcG with HB
  iapply (Streams.wp_gatherRows countersEmb 𝒱₀ (thr d L) none (src := aAllK) (hg := gathers_S33554432_S128)
    (n := S128.size gathers_S33554432_S128.axis' + S128.size gathers_S33554432_S128.axis') (dst := gHalf 0 inb_S2x128_S1x128_0_0) (offs := pHalf 0 inb_S2x128_S1x128_0_0)
    (default : HIx 1) 32 (fun _ => rfl) (by decide) (half_inb hT (wL L) 0 _) (j := 0) (u := 0) (by decide) (Nat.zero_le _)
    (fun k => Entails.of_eq (Streams.twoOf_left _ _ k _ (Nat.zero_add _)).symm)) $$ [Ha0 Hg0 Hp0 HB]
  · isplitl [Ha0]; · iexact Ha0
    isplitl [Hg0]; · iexact Hg0
    isplitl [Hp0]; · iexact Hp0
    iexact HB
  iintro HB
  iapply (Streams.wp_gatherRows countersEmb 𝒱₀ (thr d L) none (src := aAllK) (hg := gathers_S33554432_S128)
    (n := S128.size gathers_S33554432_S128.axis' + S128.size gathers_S33554432_S128.axis') (dst := gHalf 1 inb_S2x128_S1x128_1_0) (offs := pHalf 1 inb_S2x128_S1x128_1_0)
    (default : HIx 1) 32 (fun _ => rfl) (by decide) (half_inb hT (wL L) 1 _) (j := 128) (u := 0) (by decide) (Nat.zero_le _)
    (fun k => Entails.of_eq (Streams.twoOf_right _ _ k _ rfl).symm)) $$ [Ha1 Hg1 Hp1 HB]
  · isplitl [Ha1]; · iexact Ha1
    isplitl [Hg1]; · iexact Hg1
    isplitl [Hp1]; · iexact Hp1
    iexact HB
  iintro HB
  sl_step
  beta_reduce
  rw [wp_bind]
  unfold k0_part12_skel
  ihave Hmw1 := (Transfers.MayWaits.elim (SemLoc.dma cc0_scratch5.sem)) $$ Hmw
  iapply (Streams.wp_waitRows countersEmb 𝒱₀ (thr d L) none (dstw := gHalf 0 inb_S2x128_S1x128_0_0) (default : HIx 1) (N := 32) (j := 256) (u := 0) 128 rfl
    (D := Streams.twoOf (rowsOf d L (wL L).val (shr (wL L)).left (m.A d) (m.Tg d) f2 0 inb_S2x128_S1x128_0_0 (half_inb hT _ _ _))
      (rowsOf d L (wL L).val (shr (wL L)).right (m.A d) (m.Tg d) f2 1 inb_S2x128_S1x128_1_0 (half_inb hT _ _ _))) (by decide)) $$ [HB HO Hmw1]
  · isplitl [HB]; · iexact HB
    isplitl [HO]; · iexact HO
    iexact Hmw1
  iintro ⟨HB, HO⟩
  ihave Hmw2 := (Transfers.MayWaits.elim (SemLoc.dma cc0_scratch5.sem)) $$ Hmw
  iapply (Streams.wp_waitRowsAll countersEmb 𝒱₀ (thr d L) none (dstw := gHalf 1 inb_S2x128_S1x128_1_0) (default : HIx 1) (N := 32) (u := 0 + 128 * 32) rfl (by decide)
    (D := Streams.twoOf (rowsOf d L (wL L).val (shr (wL L)).left (m.A d) (m.Tg d) f2 0 inb_S2x128_S1x128_0_0 (half_inb hT _ _ _))
      (rowsOf d L (wL L).val (shr (wL L)).right (m.A d) (m.Tg d) f2 1 inb_S2x128_S1x128_1_0 (half_inb hT _ _ _))) (by decide)) $$ [HB HO Hmw2]
  · isplitl [HB]; · iexact HB
    isplitl [HO]; · iexact HO
    iexact Hmw2
  iintro ⟨HD, HcG, HO⟩
  ihave HD := (Entails.of_eq (Streams.bigSep_twoOf _ _)) $$ HD
  icases HD with ⟨HD0, HD1⟩
  ihave HD0 := (rowsOf_join d L (wL L).val (shr (wL L)).left (m.A d) (m.Tg d) f2 0 inb_S2x128_S1x128_0_0 (half_inb hT _ _ _)) $$ HD0
  icases HD0 with ⟨Hg0, Ha0, Hp0⟩
  ihave HD1 := (rowsOf_join d L (wL L).val (shr (wL L)).right (m.A d) (m.Tg d) f2 1 inb_S2x128_S1x128_1_0 (half_inb hT _ _ _)) $$ HD1
  icases HD1 with ⟨Hg1, Ha1, Hp1⟩
  ihave Ha := (pointsTo_share (PosShare.mem_left_op_right (shr (wL L)))).2 $$ [Ha0 Ha1]
  · isplitl [Ha0]; · iexact Ha0
    iexact Ha1
  ihave Ha := (pointsTo_split_subset (ℓ := aAllK.view.loc (thr d L)) (q := shr (wL L)) (f := (m.A d : Buf (Elt F) (aLoc d))) (S := Finset.univ) (Finset.subset_univ aAllK.view.set)).2 $$ [Ha Har]
  · isplitl [Ha]; · iexact Ha
    iexact Har
  ihave Hs1 := (Entails.of_eq (pts_pHalves (F := F) d L (posBuf (m.Tg d) (wL L).val)).symm) $$ [Hp0 Hp1]
  · isplitl [Hp0]; · iexact Hp0
    iexact Hp1
  ihave Hs2 := (Entails.of_eq (pts_gHalves d L (gatBuf (m.A d) (m.Tg d) (wL L).val)).symm) $$ [Hg0 Hg1]
  · isplitl [Hg0]; · iexact Hg0
    iexact Hg1
  sl_exec
  have hsum : ∀ l : S16.Idx, tile_body.sl.dma34 d L m f3 f4 l = sums m d ((oRowK L).view.emb l) := by
    intro l
    sl_unfold_run_names
    refine View.read_writes_apply_of_pieces (v := sS.view) (Val := Elt F) f4 (fun l => sums m d ((oRowK L).view.emb l)) _ ?_ l
      (View.cover_of_tiled (s := S16) _ ![16] rfl l)
    intro p hp
    obtain rfl := List.mem_singleton.mp hp
    dsimp only
    intro x
    rw [show (Rect.unit (s := S16) ![0] S16.size inb_S16_S16_0).emb x = x from by funext a; refine Fin.ext ?_; rw [Rect.emb_apply]; match a with | 0 => show 0 + 1 * (x 0).val = (x 0).val; omega]
    refine Eq.trans ?_ (partials_apply (m.A d) (m.Tg d) (m.R d) _ _ _ (row_emb L x).1 (row_emb L x).2).symm
    refine sum_apply (fun j => contrib (m.A d) (m.Tg d) (m.R d) (256 * (wL L).val + 16 * j + (x 0).val)) x
      ?_ ?_ ?_ ?_ ?_ ?_ ?_ ?_ ?_ ?_ ?_ ?_ ?_ ?_ ?_ ?_
    all_goals beta_reduce
    all_goals refine group_apply L (m.A d) (m.Tg d) (m.R d) f3 _ _ _ _ _ _ ?_ ?_ x
    all_goals rfl
  have hout : ∀ y ∈ (oRowK L).view.set, (oRowK L).view.writes (Elt F) (m.o d) [⟨Rect.whole S16, tile_body.sl.dma34 d L m f3 f4⟩] y = sums m d y := by
    intro y hy
    obtain ⟨l, -, rfl⟩ := Finset.mem_map.mp hy
    refine View.read_writes_apply_of_pieces (v := (oRowK L).view) (Val := Elt F) (m.o d) (fun l => sums m d ((oRowK L).view.emb l)) _ ?_ l
      ⟨_, List.mem_singleton_self _, by rw [Rect.set_whole]; exact Finset.mem_univ l⟩
    intro p hp x
    obtain rfl := List.mem_singleton.mp hp
    exact (hsum x).trans (congrArg (fun z => sums m d ((oRowK L).view.emb z)) (Rect.emb_whole_apply S16 x).symm)
  ihave Ho := (Entails.of_eq (pointsTo_congr hout)) $$ Ho
  ihave Ho := (Entails.of_eq (pts_oRowK (F := F) d L _)) $$ Ho
  sl_step
  isplitl [Ha Htr Hrr Ho]
  · isplitl [Ha Htr Hrr]
    · isplitl [Ha]; · iexact Ha
      isplitl [Htr]; · iexact Htr
      iexact Hrr
    · iexact Ho
  isplitl [Hs0 Hs1 Hs2 Hs3 Hs4 Hbufs]
  · isplitl [Hs0]; · iexists _; iexact Hs0
    isplitl [Hs1]; · iexists _; iexact Hs1
    isplitl [Hs2]; · iexists _; iexact Hs2
    isplitl [Hs3]; · iexists _; iexact Hs3
    isplitl [Hs4]; · iexists _; iexact Hs4
    iexact Hbufs
  isplitl [HcG HcT HcR HcO Hsems]
  · isplitl [HcG]; · iexact HcG
    isplitl [HcT]; · iexact HcT
    isplitl [HcR]; · iexact HcR
    isplitl [HcO]; · iexact HcO
    iexact Hsems
  iexists _
  isplitr; rotate_left
  · iexact HO
  · ipureintro
    intro p hp
    simp only [Finset.mem_insert] at hp
    rcases hp with rfl | rfl | rfl | rfl | rfl | hp
    · exact .inr rfl
    · exact .inr rfl
    · exact .inr rfl
    · exact .inr rfl
    · exact .inr rfl
    · exact .inl hp

end Cert.Proof.Tile

end
-- ==== Proof.HostLines.lean ====
/-
  @MAIN AROUND THE CALL. The seven host operations before the SparseCore call lay its three operands out; the five after
  it add the partial sums and divide by the sequence's length. Here: @main as those two lines around the call, what the
  host arrays hold before the call (`V1`) and at the call's return (`V2`), and @main's result as a function of them.
-/
module

public import proofs.«01_k».proof.Proof.Setup
public import Idealize.ShloMosaic.Lib.Pipeline.Frame

@[expose] public section

set_option maxRecDepth 16384

noncomputable section

namespace Cert.Proof.HostLines

open Cert.KernelIdeal Cert.KernelIdeal.Gen Cert.Proof.Setup Facts

open Idealize.ShloMosaic
open Idealize.SL.Sem

variable {F : FTy → Type} [FloatOps F]

/-! ## The two lines -/

/-- Before the call: the targets and the rewards transposed and flattened, the probabilities put in the order of their
    tiles and flattened. -/
def before : List (HloOp τ sig (Elt F)) :=
  [StableHlo.unary main_arg1 main_v0 ((transpose S2048x4 [1, 0] · transposes_S4x2048_S2048x4_1_0) : (⟨S4x2048, .i32⟩ : BufTy).Contents (Elt F) → (⟨S2048x4, .i32⟩ : BufTy).Contents (Elt F)),
   StableHlo.reshape main_v0 main_v1 (rfl : (.i32 : EltTy) = .i32) shapeCasts_S2048x4_S8192,
   StableHlo.unary main_arg2 main_v2 ((transpose S4x2048 [1, 0] · transposes_S2048x4_S4x2048_1_0) : (⟨S2048x4, .f32⟩ : BufTy).Contents (Elt F) → (⟨S4x2048, .f32⟩ : BufTy).Contents (Elt F)),
   StableHlo.reshape main_v2 main_v3 (rfl : (.f32 : EltTy) = .f32) shapeCasts_S4x2048_S8192,
   StableHlo.reshape main_arg0 main_v4 (rfl : (.f32 : EltTy) = .f32) shapeCasts_S4x2048x4096_S1024x8x32x128,
   StableHlo.unary main_v4 main_v5 ((transpose S1024x32x8x128 [0, 2, 1, 3] · transposes_S1024x8x32x128_S1024x32x8x128_0_2_1_3) : (⟨S1024x8x32x128, .f32⟩ : BufTy).Contents (Elt F) → (⟨S1024x32x8x128, .f32⟩ : BufTy).Contents (Elt F)),
   StableHlo.reshape main_v5 main_v6 (rfl : (.f32 : EltTy) = .f32) shapeCasts_S1024x32x8x128_S33554432]

/-- After the call: the partial sums added, and their sum divided by 2048. -/
def behind : List (HloOp τ sig (Elt F)) :=
  [StableHlo.nullary main_cst (constant S_ .f32 0x00000000#32),
   StableHlo.binary main_v7 main_cst main_v8 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
   StableHlo.nullary main_cst_0 (constant S_ .f32 0x45000000#32),
   StableHlo.binary main_v8 main_cst_0 main_v9 (Host.divf : (⟨S_, .f32⟩ : BufTy).Contents (Elt F) → (⟨S_, .f32⟩ : BufTy).Contents (Elt F) → (⟨S_, .f32⟩ : BufTy).Contents (Elt F)),
   StableHlo.reshape main_v9 main_v10 (rfl : (.f32 : EltTy) = .f32) shapeCasts_S_S1x1]

/-- @main is the first line, the call, the second line. -/
theorem main_eq (d : Dev nD) :
    main (F := F) d = StableHlo.seq before >>= fun _ => (sc (F := F)).run d 0 >>= fun _ => StableHlo.seq behind >>= fun _ => pure ⟨⟩ := by
  simp only [main, before, behind, StableHlo.seq, bind_assoc, pure_bind]

theorem before_bufs : ∀ op ∈ (before : List (HloOp τ sig (Elt F))), op.bufs ⊆ Pipeline.ucRefs τ sig := by
  intro op h
  refine Pipeline.sub_ucRefs op ?_
  simp only [before, List.mem_cons, List.not_mem_nil, or_false] at h
  rcases h with rfl | rfl | rfl | rfl | rfl | rfl | rfl <;> simp

theorem before_fresh : ∀ op ∈ (before : List (HloOp τ sig (Elt F))), op.fresh = ∅ := by
  intro op h
  simp only [before, List.mem_cons, List.not_mem_nil, or_false] at h
  rcases h with rfl | rfl | rfl | rfl | rfl | rfl | rfl <;> rfl

theorem behind_bufs : ∀ op ∈ (behind : List (HloOp τ sig (Elt F))), op.bufs ⊆ Pipeline.ucRefs τ sig := by
  intro op h
  refine Pipeline.sub_ucRefs op ?_
  simp only [behind, List.mem_cons, List.not_mem_nil, or_false] at h
  rcases h with rfl | rfl | rfl | rfl | rfl <;> simp

theorem behind_fresh : ∀ op ∈ (behind : List (HloOp τ sig (Elt F))), op.fresh = ∅ := by
  intro op h
  simp only [behind, List.mem_cons, List.not_mem_nil, or_false] at h
  rcases h with rfl | rfl | rfl | rfl | rfl <;> rfl

/-! ## What the arrays hold -/

section Contents

variable (m : (ℓ : Loc nD τ sig) → Buf (Elt F) ℓ) (d : Dev nD)

/-- The device's arrays as the launch leaves them, and before the call. -/
def V0 : Valuation τ sig (Elt F) := fun b => m (d, b)
def V1 : Valuation τ sig (Elt F) := StableHlo.after before (V0 m d)

/-- The call's operands, on every device. -/
def operands : Ops F where
  A d := V1 m d (Proc.devRef .tc main_v6)
  Tg d := V1 m d (Proc.devRef .tc main_v1)
  R d := V1 m d (Proc.devRef .tc main_v3)
  o d := V1 m d (Proc.devRef .tc main_v7)

/-- The arrays when the call has returned: the partial sums in their place, the rest as before. -/
def V2 : Valuation τ sig (Elt F) := Function.update (V1 m d) (Proc.devRef .tc main_v7) (sums (operands m) d)
/-- The arrays when @main has returned. -/
def V3 : Valuation τ sig (Elt F) := StableHlo.after behind (V2 m d)

/-- @main's result. -/
def result : S1x1.Idx → F .f32 :=
  shapeCast S1x1 (Host.divf (Host.reduceAdd (sums (operands m) d) (constant S_ .f32 0x00000000#32) reducesTo_S32x16_S_d0_1 h_S_)
    (constant S_ .f32 0x45000000#32)) shapeCasts_S_S1x1

theorem V2_out : V2 m d (Proc.devRef .tc main_v7) = sums (operands m) d := Function.update_self _ _ _
theorem V2_arg {r : Ref sig .tc} (h : r ≠ main_v7) : V2 m d (Proc.devRef .tc r) = V1 m d (Proc.devRef .tc r) :=
  Function.update_of_ne (StableHlo.devRef_ne_of_ne h) _ _

theorem V3_out : V3 m d (Proc.devRef .tc main_v10) = result m d := by
  unfold V3 behind
  after_results
  rw [V2_out]
  rfl

theorem V3_arg0 : V3 m d (Proc.devRef .tc main_arg0) = m (d, Proc.devRef .tc main_arg0) := by
  unfold V3 behind
  after_results
  rw [V2_arg m d (by decide)]
  unfold V1 before
  after_results
  rfl
theorem V3_arg1 : V3 m d (Proc.devRef .tc main_arg1) = m (d, Proc.devRef .tc main_arg1) := by
  unfold V3 behind
  after_results
  rw [V2_arg m d (by decide)]
  unfold V1 before
  after_results
  rfl
theorem V3_arg2 : V3 m d (Proc.devRef .tc main_arg2) = m (d, Proc.devRef .tc main_arg2) := by
  unfold V3 behind
  after_results
  rw [V2_arg m d (by decide)]
  unfold V1 before
  after_results
  rfl

end Contents

end Cert.Proof.HostLines

end
-- ==== Proof.Run.lean ====
/-
  THE PROGRAM'S RUN, for any float values: the tiles' obligation from one tile's run (Tile.lean), the dealing of the
  call's arrays to the 32 workers and their return, @main on the TensorCore, and what the run leaves: the three
  arguments as they were, @main's result at `HostLines.result`, every semaphore at zero.
-/
module

public import proofs.«01_k».proof.Proof.Tile
public import proofs.«01_k».proof.Proof.HostLines

@[expose] public section

set_option maxRecDepth 16384

noncomputable section

namespace Cert.Proof.Run

open Cert.KernelIdeal Cert.KernelIdeal.Gen Cert.Proof.Setup Cert.Proof.TileValues Cert.Proof.Tile Cert.Proof.HostLines

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held held_sub_split held_congr wp_seq)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The tiles' obligation -/

section Tiles

variable (w : Ops F)

/-- A tile's coordinates on the grid of 2 SparseCores by 16 tiles. -/
def gridAt (c : Fin (grid0.bound 0)) (s : Fin (grid0.bound 1)) : grid0.Coords :=
  fun | 0 => c | 1 => s | ⟨_ + 2, h⟩ => absurd h (Nat.not_lt.2 (Nat.le_add_left _ _))

/-- What a tile runs for the call: the kernel's body at the tile's coordinates. -/
theorem defs₀_tile (c : Fin τ.nSC) (s : Fin τ.nSub) :
    defs₀ (F := F) (.scVector c s) 0 ()
      = SparseCore.onTile hcore0 hsub0 (fun c s => cc0_gather_loss (gridAt c s)
          aV (Memref.isWhole_whole _) tV (Memref.isWhole_whole _) rV (Memref.isWhole_whole _) oV (Memref.isWhole_whole _)
          tS (Memref.isWhole_whole _) pS (Memref.isWhole_whole _) gS (Memref.isWhole_whole _) rS (Memref.isWhole_whole _) sS (Memref.isWhole_whole _)
          cc0_scratch5 cc0_scoped0 cc0_scoped1 cc0_scoped2) ⟨⟩ c s := rfl

/-- The waits a body leaves, all at no call's index, are among those the launch allows. -/
theorem waits_weaken {thr : Thread nD τ} {A B C : sProp 𝕄} {O : CellTallies nD τ sig (HIx 1)} {W : Waits sig (HIx 1)} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some (0 : Fin 1)⌝ ∗ owes thr O W') := by
  iintro ⟨HA, HB, HC, %W', %h, HO⟩
  isplitl [HA]; · iexact HA
  isplitl [HB]; · iexact HB
  isplitl [HC]; · iexact HC
  iexists W'
  isplitr; · ipureintro; exact fun p hp => (h p hp).imp_right Or.inl
  iexact HO

/-- Every tile's part of the call, from its shares of the operands and its row of the result. -/
theorem tileObl (hF : (K (F := F)).Facts) (hT : ∀ d, InCols (w.Tg d)) : (K (F := F)).TileObl (D (F := F)) 𝒱 (P w) v₀ 0 := by
  intro d c i O W hO _ _
  simp only [show (P w).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact (tile_body d (gridAt ⟨_, hci.1⟩ ⟨_, hci.2⟩) w hF (hT d) O W hO).trans (wp_mono frame _ _ fun _ => waits_weaken)

/-- A SparseCore hands its tiles their parts and takes back what they return. -/
theorem vecSplit : (K (F := F)).VecSplit' (P w) 0 := by
  intro d c
  show (bigSep Finset.univ fun i => goPts w d (wk (F := F) c i)) ⊢ |={Set.univ}=> iprop(
      (bigSep Finset.univ fun i => goPts w d (wk (F := F) c i))
      ∗ ((bigSep Finset.univ fun i => tdPts w d (wk (F := F) c i)) -∗ (bigSep Finset.univ fun i => tdPts w d (wk (F := F) c i))))
  iintro H; imodintro
  isplitl [H]; · iexact H
  iintro H; iexact H

end Tiles

/-! ## The arrays dealt to the workers -/

/-- The workers are the pairs of a SparseCore and one of its tiles. -/
def workers : Fin 2 × Fin 16 ≃ Fin 32 where
  toFun p := worker p.1 p.2
  invFun v := (⟨v.val % 2, Nat.mod_lt _ (by decide)⟩, ⟨v.val / 2, by have := v.isLt; omega⟩)
  left_inv p := by
    obtain ⟨c, i⟩ := p
    have := c.isLt
    refine Prod.ext (Fin.ext ?_) (Fin.ext ?_)
    · show (2 * i.val + c.val) % 2 = c.val; omega
    · show (2 * i.val + c.val) / 2 = i.val; omega
  right_inv v := Fin.ext (by show 2 * (v.val / 2) + v.val % 2 = v.val; omega)

/-- A statement for every worker is one for every tile of every SparseCore. -/
theorem by_workers (Φ : Fin 32 → sProp 𝕄) :
    bigSep Finset.univ Φ
      = bigSep Finset.univ fun c : Fin ((K (F := F)).nCore 0) => bigSep Finset.univ fun i : Fin ((K (F := F)).nSub 0) => Φ (wk (F := F) c i) := by
  rw [bigSep_univ_equiv workers, bigSep_univ_prod]
  rfl

theorem oRowSet_eq (v : Fin 32) : oRowSet v = (oRow v).set := by
  show ((View.whole (main_v7_scv : Ref sig .scVector)).slice (oRow v)).set = _
  rw [View.set_slice]; exact Finset.map_refl

/-- The result's array is its 32 rows. -/
theorem oPts_rows (d : Dev nD) (f : Buf (Elt F) (oLoc d)) :
    (oLoc d ↦{fullShare} f : sProp 𝕄) = bigSep Finset.univ fun v : Fin 32 => oRowPts d v f := by
  have hd : ∀ a ∈ (Finset.univ : Finset (Fin 32)), ∀ b ∈ (Finset.univ : Finset (Fin 32)), a ≠ b → Disjoint (oRowSet a) (oRowSet b) :=
    fun a _ b _ h => by rw [oRowSet_eq, oRowSet_eq]; exact Rect.part_disjoint odiv h
  have hc : (Finset.univ : Finset (Fin 32)).biUnion oRowSet = Finset.univ :=
    (Finset.biUnion_congr rfl fun v _ => oRowSet_eq v).trans (Rect.biUnion_part odiv)
  rw [← pointsTo_biUnion Finset.univ (ℓ := oLoc d) oRowSet hd, hc]; try rfl

/-- An array whole is the 32 workers' shares of it. -/
theorem pts_shares {ℓ : Loc nD τ sig} (f : Buf (Elt F) ℓ) :
    (ℓ ↦{fullShare} f : sProp 𝕄) = bigSep Finset.univ fun v : Fin 32 => ℓ ↦{shr v} f :=
  pointsTo_piecesOf Finset.univ f (by decide) fullShare

/-- The last of four parts set apart. -/
theorem last_out {A B C O : sProp 𝕄} : iprop(A ∗ B ∗ C ∗ O) = iprop((A ∗ B ∗ C) ∗ O) := by
  have h : iprop(A ∗ B ∗ C ∗ O) ⊢ iprop((A ∗ B ∗ C) ∗ O) := by
    iintro ⟨HA, HB, HC, HO⟩
    isplitr [HO]
    · isplitl [HA]; · iexact HA
      isplitl [HB] <;> iassumption
    iexact HO
  have h' : iprop((A ∗ B ∗ C) ∗ O) ⊢ iprop(A ∗ B ∗ C ∗ O) := by
    iintro ⟨⟨HA, HB, HC⟩, HO⟩
    isplitl [HA]; · iexact HA
    isplitl [HB]; · iexact HB
    isplitl [HC] <;> iassumption
  exact h.antisymm h'

/-- The call's four arrays whole, the result's at `f`. -/
abbrev callPts (w : Ops F) (d : Dev nD) (f : S32x16.Idx → F .f32) : sProp 𝕄 :=
  iprop((aLoc d ↦{fullShare} (w.A d : Buf (Elt F) (aLoc d))) ∗ (tLoc d ↦{fullShare} (w.Tg d : Buf (Elt F) (tLoc d)))
    ∗ (rLoc d ↦{fullShare} (w.R d : Buf (Elt F) (rLoc d))) ∗ (oLoc d ↦{fullShare} (f : Buf (Elt F) (oLoc d))))

/-- They are every worker's shares of the operands and its row of the result. -/
theorem callPts_deal (w : Ops F) (d : Dev nD) (f : S32x16.Idx → F .f32) :
    callPts w d f = bigSep Finset.univ fun v : Fin 32 => iprop(opPts w d v ∗ oRowPts d v f) := by
  rw [bigSep_sep', bigSep_sep', bigSep_sep', ← oPts_rows, ← pts_shares, ← pts_shares, ← pts_shares]
  exact last_out

theorem st_eq (w : Ops F) (d : Dev nD) : (bigSep Finset.univ fun c : Fin ((K (F := F)).nCore 0) => (P w).st 0 d c) = callPts w d (w.o d) :=
  ((callPts_deal w d (w.o d)).trans (by_workers _)).symm
theorem dn_eq (w : Ops F) (d : Dev nD) : (bigSep Finset.univ fun c : Fin ((K (F := F)).nCore 0) => (P w).dn 0 d c) = callPts w d (sums w d) :=
  ((callPts_deal w d (sums w d)).trans (by_workers _)).symm

/-! ## The launch's ghost state -/

def u₀ : UU := (initOf (K (F := F)).hsCells (K (F := F)).hsToks, 1)

theorem emp_all {I : Type} (s : Finset I) : (bigSep s fun _ => iprop(emp)) = (iprop(emp) : sProp 𝕄) := bigSep_emp_const s

theorem hu₀ (w : Ops F) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P w).x q thr) := by
  unfold u₀
  iintro H
  ihave H := (ownU_pair (initOf (K (F := F)).hsCells (K (F := F)).hsToks) (1 : Counters)) $$ H
  icases H with ⟨HH, -⟩
  imodintro
  isplitl [HH]; · iexact HH
  isplitr; · rw [emp_all]; iempintro
  rw [show (bigSep Finset.univ fun thr : Thread nD τ => bigSep Finset.univ fun q : Fin 1 => (P w).x q thr) = bigSep Finset.univ fun _ => iprop(emp) from
    bigSep_congr fun _ _ => bigSep_univ_of_subsingleton (0 : Fin 1), emp_all]
  iempintro

/-! ## @main on the TensorCore -/

section Main

variable (m : (ℓ : Loc nD τ sig) → Buf (Elt F) ℓ) (ρ : Dev nD → PrngReg)

/-- The call's arrays, and the arrays the claims read, among the TensorCore's. -/
abbrev callRefs : Finset (DevRef τ sig) := {Proc.devRef .tc main_v6, Proc.devRef .tc main_v1, Proc.devRef .tc main_v3, Proc.devRef .tc main_v7}
abbrev readRefs : Finset (DevRef τ sig) := {Proc.devRef .tc main_arg0, Proc.devRef .tc main_arg1, Proc.devRef .tc main_arg2, Proc.devRef .tc main_v10}

theorem callRefs_sub : callRefs ⊆ Pipeline.ucRefs τ sig := by decide
theorem readRefs_sub : readRefs ⊆ Pipeline.ucRefs τ sig := by decide

theorem held_call (d : Dev nD) (W : Valuation τ sig (Elt F)) :
    (held (SparseCore.T d) callRefs W : sProp 𝕄)
      = iprop((aLoc d ↦{fullShare} W (Proc.devRef .tc main_v6)) ∗ (tLoc d ↦{fullShare} W (Proc.devRef .tc main_v1))
          ∗ (rLoc d ↦{fullShare} W (Proc.devRef .tc main_v3)) ∗ oLoc d ↦{fullShare} W (Proc.devRef .tc main_v7)) := by
  unfold held
  rw [SparseCore.bigSep_insert' (by decide), SparseCore.bigSep_insert' (by decide), SparseCore.bigSep_insert' (by decide), bigSep_singleton]

theorem held_read (d : Dev nD) (W : Valuation τ sig (Elt F)) :
    (held (SparseCore.T d) readRefs W : sProp 𝕄)
      = iprop(((SparseCore.T d).loc main_arg0 ↦{fullShare} W (Proc.devRef .tc main_arg0)) ∗ ((SparseCore.T d).loc main_arg1 ↦{fullShare} W (Proc.devRef .tc main_arg1))
          ∗ ((SparseCore.T d).loc main_arg2 ↦{fullShare} W (Proc.devRef .tc main_arg2)) ∗ (SparseCore.T d).loc main_v10 ↦{fullShare} W (Proc.devRef .tc main_v10)) := by
  unfold held
  rw [SparseCore.bigSep_insert' (by decide), SparseCore.bigSep_insert' (by decide), SparseCore.bigSep_insert' (by decide), bigSep_singleton]

/-- What @main leaves for the claims: the arguments at their launch contents, the result at its value. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ (SparseCore.T d).loc main_v10 ↦{fullShare} (result m d : Buf (Elt F) ((SparseCore.T d).loc main_v10)))

theorem held_V3 (d : Dev nD) : (held (SparseCore.T d) readRefs (V3 m d) : sProp 𝕄) = FIN m d := by
  rw [held_read, V3_arg0, V3_arg1, V3_arg2, V3_out]

theorem held_rest (d : Dev nD) :
    (held (SparseCore.T d) (Pipeline.ucRefs τ sig \ callRefs) (V1 m d) : sProp 𝕄) = held (SparseCore.T d) (Pipeline.ucRefs τ sig \ callRefs) (V2 m d) :=
  held_congr _ fun b hb => by
    have hne : b ≠ Proc.devRef .tc main_v7 := fun h => (Finset.mem_sdiff.mp hb).2 (h ▸ (by decide : Proc.devRef .tc main_v7 ∈ callRefs))
    exact (Function.update_of_ne hne _ _).symm

theorem held_V1 (d : Dev nD) : (held (SparseCore.T d) callRefs (V1 m d) : sProp 𝕄) = callPts (operands m) d ((operands m).o d) := held_call d _

theorem held_V2 (d : Dev nD) : (held (SparseCore.T d) callRefs (V2 m d) : sProp 𝕄) = callPts (operands m) d (sums (operands m) d) := by
  rw [held_call, V2_out, V2_arg m d (by decide), V2_arg m d (by decide), V2_arg m d (by decide)]; rfl

theorem held_V0 (d : Dev nD) : (unscopedBufs d (fun b => m ((SparseCore.T d).loc b)) : sProp 𝕄) = held (SparseCore.T d) (Pipeline.ucRefs τ sig) (V0 m d) :=
  Pipeline.unscopedBufs_held d (V0 m d)

/-- After the first line of host operations the call's arrays are apart from the rest. -/
theorem held_split_call (d : Dev nD) :
    (held (d.tc : Thread nD τ) (Pipeline.ucRefs τ sig) (StableHlo.after before (V0 m d)) : sProp 𝕄)
      ⊢ iprop((bigSep Finset.univ fun c : Fin ((K (F := F)).nCore 0) => (P (operands m)).st 0 d c)
          ∗ held (SparseCore.T d) (Pipeline.ucRefs τ sig \ callRefs) (V2 m d)) := by
  rw [st_eq, ← held_V1, ← held_rest]
  exact Entails.of_eq (held_sub_split (SparseCore.T d) callRefs_sub (V1 m d))

/-- When the call has returned they are together again. -/
theorem held_join_call (d : Dev nD) :
    iprop((bigSep Finset.univ fun c : Fin ((K (F := F)).nCore 0) => (P (operands m)).dn 0 d c)
        ∗ held (SparseCore.T d) (Pipeline.ucRefs τ sig \ callRefs) (V2 m d))
      ⊢ (held (d.tc : Thread nD τ) (Pipeline.ucRefs τ sig) (V2 m d) : sProp 𝕄) := by
  rw [dn_eq, ← held_V2]
  exact Entails.of_eq (held_sub_split (SparseCore.T d) callRefs_sub (V2 m d)).symm

/-- The arrays the claims read, out of all of them at the end. -/
theorem held_end (d : Dev nD) :
    (held (d.tc : Thread nD τ) (Pipeline.ucRefs τ sig) (StableHlo.after behind (V2 m d)) : sProp 𝕄) ⊢ FIN m d :=
  (Entails.of_eq (held_sub_split (SparseCore.T d) readRefs_sub (V3 m d))).trans (sep_elim_left.trans (Entails.of_eq (held_V3 m d)))

/-- @main on a device's TensorCore: the first line of host operations, the call, the second line. -/
theorem hmain (κ : GSem nD τ sig → ℕ) (d : Dev nD) :
    iprop((K (F := F)).ctx EH (P (operands m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [held_V0, main_eq]
  iintro ⟨#Hctx, Hst, ⟨Hb, Hheld, Hts, -⟩, -⟩
  iapply (wp_seq 𝒱 none Set.univ d (Pipeline.ucRefs τ sig) _ before before_bufs before_fresh (V0 m d)) $$ [Hb Hheld]
  · isplitl [Hb] <;> iassumption
  iintro ⟨Hb, Hheld⟩
  ihave Hheld := (held_split_call m d) $$ Hheld
  icases Hheld with ⟨Hcall, Hrest⟩
  rw [wp_bind]
  iapply ((K (F := F)).wp_run (D (F := F)) 𝒱 (EH := EH) (P := P (operands m)) κ d 0) $$ [Hst Hcall Hb Hrest Hts]
  isplitr; · iexact Hctx
  isplitl [Hst]; · iexact Hst
  isplitl [Hcall]; · iexact Hcall
  iintro ⟨Hst, Hdn⟩
  ihave Hheld := (held_join_call m d) $$ [Hdn Hrest]
  · isplitl [Hdn] <;> iassumption
  iapply (wp_seq 𝒱 none Set.univ d (Pipeline.ucRefs τ sig) _ behind behind_bufs behind_fresh (V2 m d)) $$ [Hb Hheld]
  · isplitl [Hb] <;> iassumption
  iintro ⟨Hb, Hheld⟩
  ihave Hread := (held_end m d) $$ Hheld
  rw [wp_pure]; imodintro
  isplitl [Hst]; · iexact Hst
  isplitl [Hread]; · iexact Hread
  isplitl [Hb] <;> iassumption

/-! ## The run -/

/-- What a device's memory holds in the end. -/
def Final (d : Dev nD) (mem : (ℓ : Loc nD τ sig) → Buf (Elt F) ℓ) : Prop :=
  mem ((SparseCore.T d).loc main_arg0) = m ((SparseCore.T d).loc main_arg0) ∧ mem ((SparseCore.T d).loc main_arg1) = m ((SparseCore.T d).loc main_arg1)
    ∧ mem ((SparseCore.T d).loc main_arg2) = m ((SparseCore.T d).loc main_arg2) ∧ mem ((SparseCore.T d).loc main_v10) = result m d

/-- An array held whole at `f` is an array the state holds at `f`. -/
theorem SI_reads {s : Phys nD τ sig (Elt F)} {ℓ : Loc nD τ sig} {f : Buf (Elt F) ℓ} :
    iprop((ℓ ↦{fullShare} f) ∗ SI s) ⊢ (iprop(⌜s.mem.mem ℓ = f⌝ ∗ SI s) : sProp 𝕄) := by
  iintro ⟨H, HSI⟩
  ihave H := (persistent_entails_right (SI_pointsTo_agree (st := s) (ℓ := ℓ) (I := Finset.univ) (q := fullShare) (f := f))) $$ [HSI H]
  · isplitl [HSI] <;> iassumption
  icases H with ⟨%h, HSI, -⟩
  isplitr; · ipureintro; exact funext fun i => h i (Finset.mem_univ i)
  iexact HSI

theorem hfin (d : Dev nD) (s : Phys nD τ sig (Elt F)) : iprop(FIN m d ∗ SI s) ⊢ (⌜Final m d s.mem.mem⌝ : sProp 𝕄) := by
  iintro ⟨⟨H0, H1, H2, H3⟩, HSI⟩
  ihave H := SI_reads $$ [H0 HSI]
  · isplitl [H0] <;> iassumption
  icases H with ⟨%h0, HSI⟩
  ihave H := SI_reads $$ [H1 HSI]
  · isplitl [H1] <;> iassumption
  icases H with ⟨%h1, HSI⟩
  ihave H := SI_reads $$ [H2 HSI]
  · isplitl [H2] <;> iassumption
  icases H with ⟨%h2, HSI⟩
  ihave H := SI_reads $$ [H3 HSI]
  · isplitl [H3] <;> iassumption
  icases H with ⟨%h3, HSI⟩
  ipureintro; exact ⟨h0, h1, h2, h3⟩

/-- For any float values, from any memory whose targets are columns of the probabilities, with zero counters: every fair
    execution of the program ends, and in the end the arguments are as they were, the result is `HostLines.result` and
    every semaphore is at zero. -/
theorem run_main [∀ e, Nonempty (Elt F e)] (hT : ∀ d, InCols ((operands m).Tg d)) :
    θ_run (Cert.KernelIdeal.defs (F := F)) (Cert.KernelIdeal.threads (F := F)) ⟨m, fun _ => 0, ρ⟩
      (fun r => (∀ d : Dev nD, Final m d r.2.mem) ∧ r.2.sem = fun _ => 0) :=
  SparseCore.Cfg.θ_run_sc_quiescent (K := K (F := F)) (D := D (F := F)) (𝒱 := 𝒱) (EH := EH) (P := P (operands m)) (A := ∅) facts v₀
    (fun q hq => match q with | 0 => nomatch hq)
    (fun q _ => match q with | 0 => tileObl (operands m) facts hT)
    (fun q _ => match q with | 0 => SparseCore.Cfg.VecSplit.of_plain (vecSplit (operands m)))
    m ρ main (fun _ => iprop(emp)) (FIN m) (u₀ (F := F)) (sep_elim_left.trans (hu₀ (operands m))) (hmain m ρ)
    (fun d s => Final m d s.mem.mem) (hfin m) (fun r => (∀ d : Dev nD, Final m d r.2.mem) ∧ r.2.sem = fun _ => 0) (fun _ h hz => ⟨h, hz⟩)

end Main

end Cert.Proof.Run

end
-- ==== Proof.InRange.lean ====
/-
  THE PRECONDITION, READ BACK. `in_range` says of the targets that all of them are at least 0 and below 4096, as signed
  numbers. Here: then each target's word, as a natural number, is below 4096.
-/
module

public import proofs.«01_k».proof.Defs
public import proofs.«01_k».proof.Proof.Gen.Pre_in_range
public import Idealize.ShloMosaic.Lib.ReduceAll

@[expose] public section

noncomputable section

namespace Cert.Proof.InRange

open Idealize.ShloMosaic Cert.Pre_in_range

attribute [local instance] Cert.Pre_in_range.Gen.facts

/-- A word that is at least 0 and below 4096 as a signed number is below 4096 as a natural number. -/
theorem word_lt {t : BitVec 32} (h : IntOp.andi (IntOp.cmpi .sge t 0#32) (IntOp.cmpi .slt t 4096#32) = 1#1) : t.toNat < 4096 := by
  obtain ⟨h0, h1⟩ := IntOp.andi_eq_one.1 h
  have g0 := IntOp.cmpi_sge.1 h0
  have g1 := IntOp.cmpi_slt.1 h1
  have e0 : (0#32 : BitVec 32).toInt = 0 := rfl
  have e1 : (4096#32 : BitVec 32).toInt = 4096 := rfl
  rw [e0] at g0
  rw [e1] at g1
  rw [BitVec.toInt_eq_toNat_cond] at g0 g1
  have := t.isLt
  split at g0 <;> omega

theorem targets_lt {F : FTy → Type} [FloatOps F] (X : FVec F S4x2048x4096 .f32) (Y : IVec S4x2048 32) (Z : FVec F S2048x4 .f32)
    (h : Cert.Pre_in_range.fn (F := F) X Y Z = fun _ => 1#1) (j : S4x2048.Idx) : (Y j).toNat < 4096 := by
  have e := congrFun h (fun a => a.elim0)
  haveI : Subsingleton S_.Idx := ⟨fun a b => funext fun k => k.elim0⟩
  exact word_lt (Host.reduce_andi_all _ _ _ _ _ e j)

end Cert.Proof.InRange

end
-- ==== Proof.Rows.lean ====
/-
  THE ROWS. The probabilities `X` are 4 × 2048 × 4096 and flatten to 8192 rows of 4096; the targets `Y` are 4 × 2048
  and are read by columns, the rewards `Z` are 2048 × 4 and are read by columns too. Row `n` therefore has the target
  `Y (n % 4, n / 4)` and the reward `Z (n % 2048, n / 2048)`, and its probabilities are the row
  `(n / 2048, n % 2048)` of `X`. Both programs average over the rows the probability at the target times the reward.
-/
module

public import Idealize.ShloMosaic.Lib.Pointwise

@[expose] public section

noncomputable section

namespace Cert.Proof.Rows

open Idealize.ShloMosaic
open scoped BigOperators

/-- Where row `n` finds its target, its reward, and column `c` of its probabilities. -/
def targetAt (n : Fin 8192) : (⟨2, ![4, 2048]⟩ : Shape).Idx := ix2 (⟨n.val % 4, by omega⟩ : Fin 4) (⟨n.val / 4, by omega⟩ : Fin 2048)
def rewardAt (n : Fin 8192) : (⟨2, ![2048, 4]⟩ : Shape).Idx := ix2 (⟨n.val % 2048, by omega⟩ : Fin 2048) (⟨n.val / 2048, by omega⟩ : Fin 4)
def cellAt (n : Fin 8192) (c : Fin 4096) : (⟨3, ![4, 2048, 4096]⟩ : Shape).Idx :=
  ix3 (⟨n.val / 2048, by omega⟩ : Fin 4) (⟨n.val % 2048, by omega⟩ : Fin 2048) c

/-- The column of a target's word. -/
def col (t : BitVec 32) : Fin 4096 := ⟨t.toNat % 4096, Nat.mod_lt _ (by decide)⟩

theorem col_val {t : BitVec 32} (h : t.toNat < 4096) : (col t).val = t.toNat := Nat.mod_eq_of_lt h

variable (X : FVec Ideal ⟨3, ![4, 2048, 4096]⟩ .f32) (Y : IVec ⟨2, ![4, 2048]⟩ 32) (Z : FVec Ideal ⟨2, ![2048, 4]⟩ .f32)

/-- Row `n`'s probability at its target times its reward. -/
def term (n : Fin 8192) : EReal := X (cellAt n (col (Y (targetAt n)))) * Z (rewardAt n)

/-- The terms of all rows. -/
def total : EReal := ∑ n : Fin 8192, term X Y Z n

end Cert.Proof.Rows

end
-- ==== Proof.HostValues.lean ====
/-
  THE CALL'S OPERANDS, READ FROM @MAIN'S ARGUMENTS. The three operands at an index, and that the word a tile gathers for
  a row is the row's probability at its target.
-/
module

public import proofs.«01_k».proof.Proof.HostLines
public import proofs.«01_k».proof.Proof.Words
public import proofs.«01_k».proof.Proof.Rows
public import Idealize.ShloMosaic.Lib.StableHlo.ReadAt
public import Idealize.ShloMosaic.Lib.Pointwise

@[expose] public section

set_option maxRecDepth 16384

noncomputable section

namespace Cert.Proof.HostValues

open Cert.KernelIdeal Cert.KernelIdeal.Gen Cert.Proof.Setup Cert.Proof.HostLines Cert.Proof.Rows Facts

open Idealize.ShloMosaic
open Idealize.SL.Sem

variable {F : FTy → Type} [FloatOps F]
variable (m : (ℓ : Loc nD τ sig) → Buf (Elt F) ℓ) (d : Dev nD)

/-- @main's arguments on a device. -/
abbrev argX : S4x2048x4096.Idx → F .f32 := m ((SparseCore.T d).loc main_arg0)
abbrev argY : S4x2048.Idx → BitVec 32 := m ((SparseCore.T d).loc main_arg1)
abbrev argZ : S2048x4.Idx → F .f32 := m ((SparseCore.T d).loc main_arg2)

/-! ## The operands at an index -/

theorem targets_at (n : Fin 8192) : (operands m).Tg d (rowAt n.val) = argY m d (targetAt n) := by
  have hn : (rowAt n.val 0).val = n.val := Nat.mod_eq_of_lt n.isLt
  show V1 m d (Proc.devRef .tc main_v1) _ = _
  unfold V1 before
  after_reads_at
  unfold targetAt
  simp only [hn]
  rfl

theorem rewards_at (n : Fin 8192) : (operands m).R d (rowAt n.val) = argZ m d (rewardAt n) := by
  have hn : (rowAt n.val 0).val = n.val := Nat.mod_eq_of_lt n.isLt
  show V1 m d (Proc.devRef .tc main_v3) _ = _
  unfold V1 before
  after_reads_at
  unfold rewardAt
  simp only [hn]
  rfl

/-- The flat array holds tiles of 8 rows by 128 columns: position `p` of it is column
    `128 (p / 1024 % 32) + p % 128` of row `8 (p / 32768) + p / 128 % 8`. -/
theorem probs_at (n : Fin 8192) (c : Fin 4096) (p : ℕ) (hp : p = n.val / 8 * 32768 + c.val / 128 * 1024 + n.val % 8 * 128 + c.val % 128) :
    (operands m).A d (probAt p) = argX m d (cellAt n c) := by
  have hn := n.isLt
  have hc := c.isLt
  have hlt : p < 33554432 := by omega
  have hy : (probAt p 0).val = p := Nat.mod_eq_of_lt hlt
  have e1 : p / 32768 = n.val / 8 := by omega
  have e2 : p / 128 % 8 = n.val % 8 := by omega
  show V1 m d (Proc.devRef .tc main_v6) _ = _
  unfold V1 before
  after_reads_at
  show m (d, Proc.devRef .tc main_arg0) _ = m (d, Proc.devRef .tc main_arg0) _
  congr 1
  unfold cellAt
  simp only [hy]
  congr 1 <;> apply Fin.ext <;> show _ = _ <;> simp only [e1, e2] <;> omega

/-! ## The words of the call -/

/-- Every target is one of the 4096 columns, in the arguments and so in the operand. -/
def TargetsInRange : Prop := ∀ j, (argY m d j).toNat < 4096

theorem in_cols (h : TargetsInRange m d) : InCols ((operands m).Tg d) := by
  intro y
  have e : y = rowAt (y 0).val := by
    funext a
    match a with
    | ⟨0, _⟩ => exact Fin.ext (Nat.mod_eq_of_lt (y 0).isLt).symm
  rw [e, targets_at m d (y 0)]
  exact h _

/-- What row `n` contributes, from @main's arguments. -/
theorem contrib_eq (h : TargetsInRange m d) (n : Fin 8192) :
    contrib ((operands m).A d) ((operands m).Tg d) ((operands m).R d) n.val
      = FloatOps.mulf (argX m d (cellAt n (col (argY m d (targetAt n))))) (argZ m d (rewardAt n)) := by
  unfold contrib picked
  rw [rewards_at, probs_at m d n (col (argY m d (targetAt n)))]
  rw [Words.rowPos_toNat (in_cols m d h) n.isLt, targets_at, col_val (h _)]

end Cert.Proof.HostValues

end
-- ==== Proof.Equation.lean ====
/-
  THE KERNEL'S VALUE. The 32 × 16 partial sums, of 16 contributions each, add up the contributions of all 8192 rows: row
  `256 w + 16 j + l` is the `j`-th contribution of lane `l` of worker `w`. Sums over extended reals may be taken in any
  order, so @main's result is the rows' total over 2048.
-/
module

public import proofs.«01_k».proof.Proof.HostValues
public import Idealize.ShloMosaic.Lib.IdealHost

@[expose] public section

set_option maxRecDepth 16384

noncomputable section

namespace Cert.Proof.Equation

open Cert.KernelIdeal Cert.KernelIdeal.Gen Cert.Proof.Setup Cert.Proof.HostLines Cert.Proof.HostValues Cert.Proof.Rows Facts
open Idealize.ShloMosaic
open scoped BigOperators

/-- Terms added in turn to a value are the value and their sum. -/
theorem foldl_add {α : Type} (f : α → EReal) (l : List α) (x : EReal) : l.foldl (fun acc j => acc + f j) x = x + (l.map f).sum := by
  induction l generalizing x with
  | nil => simp
  | cons a l ih => rw [List.foldl_cons, ih, List.map_cons, List.sum_cons, add_assoc]

/-- Row `256 w + 16 j + l` as worker, lane and turn. -/
def split : (Fin 32 × Fin 16) × Fin 16 ≃ Fin 8192 where
  toFun p := ⟨256 * p.1.1.val + 16 * p.2.val + p.1.2.val, by omega⟩
  invFun n := ((⟨n.val / 256, by omega⟩, ⟨n.val % 16, by omega⟩), ⟨n.val / 16 % 16, by omega⟩)
  left_inv p := by
    obtain ⟨⟨⟨w, hw⟩, ⟨l, hl⟩⟩, ⟨j, hj⟩⟩ := p
    simp only [Prod.mk.injEq, Fin.mk.injEq]
    omega
  right_inv n := by
    apply Fin.ext
    show 256 * (n.val / 256) + 16 * (n.val / 16 % 16) + n.val % 16 = n.val
    omega

/-- A sum over the rows, taken by workers, lanes and turns. -/
theorem sum_split (f : Fin 8192 → EReal) : ∑ w : Fin 32, ∑ l : Fin 16, ∑ j : Fin 16, f (split ((w, l), j)) = ∑ n, f n := by
  rw [← Equiv.sum_comp split f, Fintype.sum_prod_type, Fintype.sum_prod_type]

variable (m : (ℓ : Loc nD τ sig) → Buf (Elt Ideal) ℓ) (d : Dev nD)

/-- A lane's partial sum. -/
theorem sums_at (h : TargetsInRange m d) (w : Fin 32) (l : Fin 16) :
    sums (operands m) d (ix2 w l) = ∑ j : Fin 16, term (argX m d) (argY m d) (argZ m d) (split ((w, l), j)) := by
  have e : sums (operands m) d (ix2 w l) = (List.range 16).foldl (fun acc j => acc
      + (contrib ((operands m).A d) ((operands m).Tg d) ((operands m).R d) (256 * w.val + 16 * j + l.val) : EReal)) (Ideal.ofBits .f32 0x00000000#32) := rfl
  rw [e, foldl_add, Ideal.ofBits_zero_f32, zero_add]
  refine (Fin.sum_univ_eq_sum_range (fun j => (contrib ((operands m).A d) ((operands m).Tg d) ((operands m).R d) (256 * w.val + 16 * j + l.val) : EReal)) 16).symm.trans ?_
  exact Finset.sum_congr rfl fun j _ => contrib_eq m d h (split ((w, l), j))

/-- @main's result. -/
theorem result_at (h : TargetsInRange m d) (j : S1x1.Idx) :
    result m d j = Ideal.div (total (argX m d) (argY m d) (argZ m d)) (Ideal.ofBits .f32 0x45000000#32) := by
  have e : result m d j = Ideal.div (∑ w : Fin 32, ∑ l : Fin 16, sums (operands m) d (ix2 w l)) (Ideal.ofBits .f32 0x45000000#32) := by
    pointwise [result]
  rw [e]
  simp only [sums_at m d h]
  rw [sum_split]
  rfl

end Cert.Proof.Equation

end
-- ==== Proof.OneHot.lean ====
/-
  THE REFERENCE'S SELECTION. The reference scatters a one into each row of an 8192 × 4096 array of zeros, at the row's
  target. Here: which cell an update lands on, and the array at an index.
-/
module

public import proofs.«01_k».proof.Defs
public import proofs.«01_k».proof.Proof.Gen.ReferenceIdeal
public import Idealize.ShloMosaic.Lib.Routing.OpsPair
public import Idealize.ShloMosaic.Lib.Routing.OpsSet
public import Idealize.ShloMosaic.Lib.IdealHost
public import proofs.«01_k».proof.Proof.Rows

@[expose] public section

set_option maxRecDepth 16384

noncomputable section

namespace Cert.Proof.OneHot

open Cert.ReferenceIdeal Cert.ReferenceIdeal.Gen Cert.Proof.Rows Facts
open Idealize.ShloMosaic Idealize.ShloMosaic.Routing

attribute [local instance] Cert.ReferenceIdeal.Gen.facts

/-- The dimension numbers of the scatter. -/
abbrev dims : ScatterDims S8192x4096 S8192x2 S8192 := scatter_S8192x4096_S8192x2_S8192_n_01_01_1

theorem start_eq (n : Fin 8192) (idx : IVec S8192x2 32) (q : Fin 2) : dims.start (ix1 n) idx q = (idx (ix2 n q)).toInt := by
  have hs : q ∈ dims.scatterDimsToOperandDims := by fin_cases q <;> decide
  unfold ScatterDims.start
  rw [dif_pos hs]
  congr 2
  funext a
  apply Fin.ext
  fin_cases q <;> fin_cases a <;> rfl

theorem window_eq (n : Fin 8192) (q : Fin 2) : dims.window (ix1 n) q = 0 := by
  fin_cases q <;> rfl

/-- Row `n`'s update lands on the cell that its two words, as signed numbers, name. -/
theorem lands (n : Fin 8192) (idx : IVec S8192x2 32) (r : Fin 8192) (c : Fin 4096) :
    dims.resultIdx? (ix1 n) idx = some (ix2 r c) ↔ (idx (ix2 n 0)).toInt = r.val ∧ (idx (ix2 n 1)).toInt = c.val := by
  rw [ix2_eq_valueIdx r c, resultIdx?_ix2, start_eq, start_eq, window_eq, window_eq]
  omega

/-- A word less than 2³¹ is the same signed number. -/
theorem toInt_small {x : BitVec 32} (h : x.toNat < 2147483648) : x.toInt = x.toNat := by
  rw [BitVec.toInt_eq_toNat_cond, if_pos (by omega)]

/-! ## The words -/

variable (Y : IVec S4x2048 32)

/-- The targets by columns. -/
def flat : IVec S8192 32 := shapeCast S8192 (transpose S2048x4 [1, 0] Y transposes_S4x2048_S2048x4_1_0) shapeCasts_S2048x4_S8192

/-- An array's words, with `k` added to those that are negative. -/
def wrapped (k : BitVec 32) (x : IVec S8192 32) : IVec S8192 32 :=
  select (cmpi .slt x (broadcastInDim S8192 ![] bcast_S_S8192 (constantI S_ 32 0#32))) (addi x (broadcastInDim S8192 ![] bcast_S_S8192 (constantI S_ 32 k))) x

/-- The scatter's words: each row's own number and its target. -/
def words : IVec S8192x2 32 :=
  concatenate S8192x2 1 [⟨S8192x1, broadcastInDim S8192x1 ![0] bcast_S8192_S8192x1_0 (wrapped 8192#32 (iotaInDim S8192 32 0))⟩,
    ⟨S8192x1, broadcastInDim S8192x1 ![0] bcast_S8192_S8192x1_0 (wrapped 4096#32 (flat Y))⟩] concatenates_S8192x1_S8192x1_S8192x2_d1

theorem wrapped_eq (k : BitVec 32) (x : IVec S8192 32) (j : S8192.Idx) (h : (x j).toNat < 2147483648) : wrapped k x j = x j := by
  pointwise [wrapped]
  exact wrap_of_lt _ _ h

theorem flat_at (n : Fin 8192) : flat Y (ix1 n) = Y (targetAt n) := by
  pointwise [flat]
  rfl

theorem words_row (n : Fin 8192) : words Y (ix2 n 0) = BitVec.ofNat 32 n.val := by
  have e : words Y (ix2 n 0) = wrapped 8192#32 (iotaInDim S8192 32 0) (ix1 n) := by pointwise [words]
  have h : (iotaInDim S8192 32 0 (ix1 n)).toNat < 2147483648 := by
    show (BitVec.ofNat 32 n.val).toNat < _
    rw [BitVec.toNat_ofNat]; omega
  rw [e, wrapped_eq _ _ _ h]
  rfl

theorem words_col (h : ∀ j, (Y j).toNat < 4096) (n : Fin 8192) :
    words Y (ix2 n 1) = Y (targetAt n) := by
  have e : words Y (ix2 n 1) = wrapped 4096#32 (flat Y) (ix1 n) := by pointwise [words]
  rw [e, wrapped_eq, flat_at]
  rw [flat_at]
  exact lt_trans (h _) (by decide)

/-! ## The array -/

/-- The zeros with a one in each row. -/
def hot : FVec Ideal S8192x4096 .f32 :=
  Host.scatter dims (fun _ b => b) (broadcastInDim S8192x4096 ![] bcast_S_S8192x4096 (constant S_ .f32 0x00000000#32)) (words Y)
    (broadcastInDim S8192 ![] bcast_S_S8192 (constant S_ .f32 0x3F800000#32))

theorem hot_at (h : ∀ j, (Y j).toNat < 4096) (n : Fin 8192) (c : Fin 4096) :
    hot Y (ix2 n c) = if (Y (targetAt n)).toNat = c.val then (1 : EReal) else 0 := by
  have hl : ∀ k : Fin 8192, dims.resultIdx? (ix1 k) (words Y) = some (ix2 n c)
      ↔ k.val = n.val ∧ (Y (targetAt k)).toNat = c.val := fun k => by
    have hk : (BitVec.ofNat 32 k.val).toNat = k.val := by rw [BitVec.toNat_ofNat]; omega
    rw [lands, words_row, words_col Y h, toInt_small (by rw [hk]; omega), hk, toInt_small (lt_trans (h _) (by decide))]
    omega
  by_cases e : (Y (targetAt n)).toNat = c.val
  · rw [if_pos e]
    refine scatter_set_hit _ _ _ _ _ _ (fun k _ => ?_) (ix1 n) ((hl n).2 ⟨rfl, e⟩)
    show Ideal.ofBits .f32 0x3F800000#32 = 1
    exact Ideal.ofBits_one_f32
  · rw [if_neg e]
    refine (scatter_set_miss _ _ _ _ _ fun k hk => e ?_).trans ?_
    · have e1 : k = ix1 (k 0) := by
        funext a
        match a with
        | ⟨0, _⟩ => rfl
      rw [e1] at hk
      obtain ⟨h1, h2⟩ := (hl (k 0)).1 hk
      have h3 : k 0 = n := Fin.ext h1
      rw [h3] at h2
      exact h2
    · show Ideal.ofBits .f32 0x00000000#32 = 0
      simp

end Cert.Proof.OneHot

end
-- ==== Proof.Reference.lean ====
/-
  THE REFERENCE'S VALUE. Its product of the flattened probabilities with the array of ones keeps, of each row, the
  probability at the row's target; the row's sum is that probability; the product of the 8192 sums with the flattened
  rewards adds up the contributions of all rows; the quotient by 2048 is the result.
-/
module

public import proofs.«01_k».proof.Proof.OneHot
public import proofs.«01_k».proof.Proof.Gen.ReferenceIdeal.Run

@[expose] public section

set_option maxRecDepth 16384

noncomputable section

namespace Cert.Proof.Reference

open Cert.ReferenceIdeal Cert.ReferenceIdeal.Gen Cert.Proof.OneHot Cert.Proof.Rows Facts
open Idealize.ShloMosaic Idealize.SL.Sem
open scoped BigOperators

attribute [local instance] Cert.ReferenceIdeal.Gen.facts

variable (X : FVec Ideal S4x2048x4096 .f32) (Y : IVec S4x2048 32) (Z : FVec Ideal S2048x4 .f32)

/-- Each row's probabilities times the ones, added up. -/
def kept : FVec Ideal S8192 .f32 :=
  Host.reduceAdd (mulf (shapeCast S8192x4096 X shapeCasts_S4x2048x4096_S8192x4096) (hot Y)) (constant S_ .f32 0x00000000#32) reducesTo_S8192x4096_S8192_d1 h_S_

theorem kept_at (h : ∀ j, (Y j).toNat < 4096) (n : Fin 8192) : kept X Y (ix1 n) = X (cellAt n (col (Y (targetAt n)))) := by
  have e : kept X Y (ix1 n) = ∑ c : Fin 4096, X (cellAt n c) * hot Y (ix2 n c) := by
    pointwise [kept]
    rfl
  rw [e, Finset.sum_eq_single (col (Y (targetAt n)))]
  · rw [hot_at Y h, if_pos (col_val (h _)).symm, mul_one]
  · intro c _ hc
    rw [hot_at Y h, if_neg fun g => hc (Fin.ext (g.symm.trans (col_val (h _)).symm)), mul_zero]
  · intro g; exact absurd (Finset.mem_univ _) g

/-- The rewards times the probabilities kept, added up. -/
def dot : FVec Ideal S1x1 .f32 :=
  Host.dotGeneral dot_S1x8192_S8192x1_S1x1_1_0_0_1_n_n none (shapeCast S1x8192 (kept X Y) shapeCasts_S8192_S1x8192)
    (shapeCast S8192x1 (transpose S4x2048 [1, 0] Z transposes_S2048x4_S4x2048_1_0) shapeCasts_S4x2048_S8192x1)

theorem dot_at (h : ∀ j, (Y j).toNat < 4096) (j : S1x1.Idx) : dot X Y Z j = total X Y Z := by
  have e : dot X Y Z j = ∑ n : Fin 8192, kept X Y (ix1 n) * Z (rewardAt n) := by
    pointwise [dot]
    rfl
  rw [e]
  exact Finset.sum_congr rfl fun n _ => by rw [kept_at X Y h]; rfl

/-- The reference's result. -/
def mean : FVec Ideal S1x1 .f32 := Host.divf (dot X Y Z) (broadcastInDim S1x1 ![] bcast_S_S1x1 (constant S_ .f32 0x45000000#32))

theorem mean_at (h : ∀ j, (Y j).toNat < 4096) (j : S1x1.Idx) : mean X Y Z j = Ideal.div (total X Y Z) (Ideal.ofBits .f32 0x45000000#32) := by
  rw [← dot_at X Y Z h j]
  rfl

/-- The reference runs, leaves `mean` of its arguments, and leaves its arguments. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v27)
          = mean (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1, (h c).2⟩) (Cert.ReferenceIdeal.Value.run m ρ)

end Cert.Proof.Reference

end
-- ==== Proof.lean ====
/-
  THE CLAIM. The kernel's run (Run) is proved once, for any float values, with @main's result as a function of its
  arguments: at the device's bit patterns it gives the kernel's frame, at extended reals the ideal program's frame and
  its value. The precondition bounds the targets (InRange), without which a tile's gather could leave its array. The
  kernel's result is the rows' total over 2048 (Equation), and so is the reference's (Reference).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Run
public import proofs.«01_k».proof.Proof.InRange
public import proofs.«01_k».proof.Proof.Equation
public import proofs.«01_k».proof.Proof.Reference
public import proofs.«01_k».proof.Proof.Gen.ReferenceIdeal.Run

@[expose] public section

set_option maxRecDepth 16384

noncomputable section

namespace Cert.Proof

open Idealize.ShloMosaic Idealize.SL.Sem Cert.Proof.HostValues

attribute [local instance] Cert.Kernel.Gen.facts Cert.KernelIdeal.Gen.facts Cert.ReferenceIdeal.Gen.facts Cert.Pre_in_range.Gen.facts

/-- The kernel as it runs on the device ends, and leaves its arguments and its semaphores. -/
theorem frame_kernel : Cert.quiescent_Kernel := fun m ρ hpre =>
  (θ_run Cert.KernelIdeal.defs _ _).mono (fun _ h => ⟨fun c => ⟨(h.1 c).1, (h.1 c).2.1, (h.1 c).2.2.1⟩, h.2⟩)
    (Run.run_main (F := Bits) m ρ fun d => in_cols m d (InRange.targets_lt _ _ _ (hpre d)))

theorem targets_in_range {m : (ℓ : Loc Cert.KernelIdeal.nD Cert.KernelIdeal.τ Cert.KernelIdeal.sig) → Buf (Elt Ideal) ℓ} (hpre : Cert.Pre_KernelIdeal m)
    (d : Dev Cert.KernelIdeal.nD) : TargetsInRange m d :=
  InRange.targets_lt _ _ _ (hpre d)

/-- The same of the program over extended reals. -/
theorem frame_ideal : Cert.quiescent_KernelIdeal := fun m ρ hpre =>
  (θ_run Cert.KernelIdeal.defs _ _).mono (fun _ h => ⟨fun c => ⟨(h.1 c).1, (h.1 c).2.1, (h.1 c).2.2.1⟩, h.2⟩)
    (Run.run_main (F := Ideal) m ρ fun d => in_cols m d (targets_in_range hpre d))

/-- The reference ends and leaves its arguments; it has no semaphores. -/
theorem frame_reference : Cert.quiescent_ReferenceIdeal := fun m ρ _ =>
  (θ_run Cert.ReferenceIdeal.defs _ _).mono (fun r h => ⟨fun c => (h c).2, sem_eq_zero_of_no_sems (by decide) r.2⟩) (Reference.run m ρ)

/-- Both results are the rows' total over 2048. -/
theorem equal_results : Cert.algebraic_KernelIdeal_ReferenceIdeal := by
  intro m g m' g' hpre hagree
  refine ⟨fun d => HostLines.result m d, ?_, ?_⟩
  · exact (θ_run Cert.KernelIdeal.defs _ _).mono (fun _ h c => ⟨(h.1 c).2.2.2, (h.1 c).1, (h.1 c).2.1, (h.1 c).2.2.1⟩)
      (Run.run_main (F := Ideal) m g fun d => in_cols m d (targets_in_range hpre d))
  · refine (θ_run Cert.ReferenceIdeal.defs _ _).mono (fun r h c => ⟨(h c).1.trans ?_, (h c).2⟩) (Reference.run m' g')
    rw [(hagree c).1, (hagree c).2.1, (hagree c).2.2]
    funext j
    exact (Reference.mean_at _ _ _ (targets_in_range hpre c) j).trans (Equation.result_at m c (targets_in_range hpre c) j).symm

theorem claim : Cert.Claim :=
  ⟨Cert.Kernel.Gen.facts, Cert.KernelIdeal.Gen.facts, Cert.ReferenceIdeal.Gen.facts, Cert.Pre_in_range.Gen.facts,
    frame_kernel, frame_ideal, frame_reference, fun m ρ _ => frame_reference m ρ trivial, trivial, equal_results⟩

end Cert.Proof

end
